-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x4096 : Shape := ⟨3, ![3, 640, 4096]⟩
abbrev S3x640x128 : Shape := ⟨3, ![3, 640, 128]⟩
abbrev S32768x4096 : Shape := ⟨2, ![32768, 4096]⟩
abbrev S32768x128 : Shape := ⟨2, ![32768, 128]⟩
abbrev S3x640 : Shape := ⟨2, ![3, 640]⟩
abbrev S12 : Shape := ⟨1, ![12]⟩
abbrev S6 : Shape := ⟨1, ![6]⟩
abbrev S1920x4096 : Shape := ⟨2, ![1920, 4096]⟩
abbrev S1920x128 : Shape := ⟨2, ![1920, 128]⟩
abbrev S15x128 : Shape := ⟨2, ![15, 128]⟩
abbrev S1x128 : Shape := ⟨2, ![1, 128]⟩
abbrev S512x4096 : Shape := ⟨2, ![512, 4096]⟩
abbrev S512x128 : Shape := ⟨2, ![512, 128]⟩
abbrev S16x128 : Shape := ⟨2, ![16, 128]⟩
abbrev S32x128 : Shape := ⟨2, ![32, 128]⟩
abbrev S32x4096 : Shape := ⟨2, ![32, 4096]⟩
abbrev S16x128x1 : Shape := ⟨3, ![16, 128, 1]⟩
abbrev S128x128 : Shape := ⟨2, ![128, 128]⟩
abbrev S480x4096 : Shape := ⟨2, ![480, 4096]⟩
abbrev S480x512 : Shape := ⟨2, ![480, 512]⟩
abbrev S480x128 : Shape := ⟨2, ![480, 128]⟩
abbrev S128 : Shape := ⟨1, ![128]⟩
abbrev S1 : Shape := ⟨1, ![1]⟩
abbrev S1x1 : Shape := ⟨2, ![1, 1]⟩
abbrev S1x12 : Shape := ⟨2, ![1, 12]⟩
abbrev S1x6 : Shape := ⟨2, ![1, 6]⟩

abbrev nBuf : Space → Nat
  | .hbm => 26
  | .vmem => 19
  | .smem => 3
  | _ => 0

abbrev bufTy : (tb : Table) → Fin (tcTables nBuf tb) → BufTy
  | .hbm, ⟨0, _⟩ => ⟨S3x640x4096, .fp8e4m3⟩
  | .hbm, ⟨1, _⟩ => ⟨S3x640x128, .f32⟩
  | .hbm, ⟨2, _⟩ => ⟨S32768x4096, .fp8e4m3⟩
  | .hbm, ⟨3, _⟩ => ⟨S32768x128, .f32⟩
  | .hbm, ⟨4, _⟩ => ⟨S3x640, .i32⟩
  | .hbm, ⟨5, _⟩ => ⟨S3x640, .i32⟩
  | .hbm, ⟨6, _⟩ => ⟨S3x640, .i32⟩
  | .hbm, ⟨7, _⟩ => ⟨S12, .f32⟩
  | .hbm, ⟨8, _⟩ => ⟨S6, .i32⟩
  | .hbm, ⟨9, _⟩ => ⟨S6, .i32⟩
  | .hbm, ⟨10, _⟩ => ⟨S1920x4096, .fp8e4m3⟩
  | .hbm, ⟨11, _⟩ => ⟨S1920x128, .f32⟩
  | .hbm, ⟨12, _⟩ => ⟨S15x128, .i32⟩
  | .hbm, ⟨13, _⟩ => ⟨S15x128, .i32⟩
  | .hbm, ⟨14, _⟩ => ⟨S15x128, .i32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S15x128, .f32⟩
  | .hbm, ⟨19, _⟩ => ⟨S1x12, .f32⟩
  | .hbm, ⟨20, _⟩ => ⟨S12, .f32⟩
  | .hbm, ⟨21, _⟩ => ⟨S1x6, .f32⟩
  | .hbm, ⟨22, _⟩ => ⟨S6, .f32⟩
  | .hbm, ⟨23, _⟩ => ⟨S1x6, .f32⟩
  | .hbm, ⟨24, _⟩ => ⟨S6, .f32⟩
  | .hbm, ⟨25, _⟩ => ⟨S3x640, .f32⟩
  | .local _ .vmem, ⟨0, _⟩ => ⟨S1920x4096, .fp8e4m3⟩
  | .local _ .vmem, ⟨1, _⟩ => ⟨S1920x128, .f32⟩
  | .local _ .vmem, ⟨2, _⟩ => ⟨S512x4096, .fp8e4m3⟩
  | .local _ .vmem, ⟨3, _⟩ => ⟨S512x4096, .fp8e4m3⟩
  | .local _ .vmem, ⟨4, _⟩ => ⟨S512x128, .f32⟩
  | .local _ .vmem, ⟨5, _⟩ => ⟨S512x128, .f32⟩
  | .local _ .vmem, ⟨6, _⟩ => ⟨S15x128, .i32⟩
  | .local _ .vmem, ⟨7, _⟩ => ⟨S15x128, .i32⟩
  | .local _ .vmem, ⟨8, _⟩ => ⟨S15x128, .i32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S15x128, .f32⟩
  | .local _ .vmem, ⟨13, _⟩ => ⟨S1920x4096, .bf16⟩
  | .local _ .vmem, ⟨14, _⟩ => ⟨S512x4096, .bf16⟩
  | .local _ .vmem, ⟨15, _⟩ => ⟨S1920x128, .f32⟩
  | .local _ .vmem, ⟨16, _⟩ => ⟨S1920x128, .f32⟩
  | .local _ .vmem, ⟨17, _⟩ => ⟨S1920x128, .f32⟩
  | .local _ .vmem, ⟨18, _⟩ => ⟨S1920x128, .i32⟩
  | .local _ .smem, ⟨0, _⟩ => ⟨S12, .f32⟩
  | .local _ .smem, ⟨1, _⟩ => ⟨S6, .i32⟩
  | .local _ .smem, ⟨2, _⟩ => ⟨S6, .i32⟩
  | _, _ => ⟨S3x640x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_119 : BitVec 32 := 0#32
  let c60_i32 : BitVec 32 := 60#32
  let v275 : BitVec 32 := Scalar.addi c0_i32_119 c60_i32
  let c1_i32_120 : BitVec 32 := 1#32
  ⟨c0_i32_119, v275, c1_i32_120⟩
def k0_mult1 (k0_t1 : Fin k0_t1_loop.trips) : BitVec 32 :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  v424
def k0_off1 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  let c0_i32_170 : BitVec 32 := 0#32
  ![v425.toNat, 0]
def k0_off2 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  let c0_i32_176 : BitVec 32 := 0#32
  ![v425.toNat, 0]
def k0_off3 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  let c0_i32_181 : BitVec 32 := 0#32
  ![v425.toNat, 0]
def k0_off4 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  let c0_i32_186 : BitVec 32 := 0#32
  ![Nat.add v425.toNat 16, 0]
def k0_off5 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 128]
def k0_off6 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 128]
def k0_off7 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 256]
def k0_off8 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 256]
def k0_off9 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 384]
def k0_off10 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 384]
def k0_off11 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 512]
def k0_off12 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 512]
def k0_off13 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 640]
def k0_off14 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 640]
def k0_off15 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 768]
def k0_off16 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 768]
def k0_off17 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 896]
def k0_off18 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 896]
def k0_off19 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1024]
def k0_off20 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1024]
def k0_off21 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1152]
def k0_off22 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1152]
def k0_off23 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1280]
def k0_off24 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1280]
def k0_off25 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1408]
def k0_off26 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1408]
def k0_off27 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1536]
def k0_off28 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1536]
def k0_off29 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1664]
def k0_off30 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1664]
def k0_off31 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1792]
def k0_off32 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1792]
def k0_off33 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 1920]
def k0_off34 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 1920]
def k0_off35 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2048]
def k0_off36 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2048]
def k0_off37 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2176]
def k0_off38 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2176]
def k0_off39 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2304]
def k0_off40 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2304]
def k0_off41 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2432]
def k0_off42 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2432]
def k0_off43 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2560]
def k0_off44 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2560]
def k0_off45 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2688]
def k0_off46 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2688]
def k0_off47 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2816]
def k0_off48 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2816]
def k0_off49 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 2944]
def k0_off50 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 2944]
def k0_off51 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3072]
def k0_off52 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3072]
def k0_off53 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3200]
def k0_off54 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3200]
def k0_off55 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3328]
def k0_off56 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3328]
def k0_off57 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3456]
def k0_off58 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3456]
def k0_off59 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3584]
def k0_off60 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3584]
def k0_off61 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3712]
def k0_off62 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3712]
def k0_off63 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3840]
def k0_off64 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3840]
def k0_off65 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![v425.toNat, 3968]
def k0_off66 (k0_t1 : Fin k0_t1_loop.trips) : Fin 2 → Nat :=
  let c0_i32_119 : BitVec 32 := 0#32
  let c1_i32_120 : BitVec 32 := 1#32
  let arg21 : BitVec 32 := Scf.iv c0_i32_119 c1_i32_120 k0_t1
  let c32_i32 : BitVec 32 := 32#32
  let v424 : BitVec 32 := Scalar.muli arg21 c32_i32
  let v425 : BitVec 32 := v424
  ![Nat.add v425.toNat 16, 3968]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  v275
def k0_off67 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  let c0_i32_126 : BitVec 32 := 0#32
  ![v276.toNat, 0]
def k0_off68 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  let c0_i32_132 : BitVec 32 := 0#32
  ![v276.toNat, 0]
def k0_off69 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  let c0_i32_137 : BitVec 32 := 0#32
  ![v276.toNat, 0]
def k0_off70 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  let c0_i32_142 : BitVec 32 := 0#32
  ![Nat.add v276.toNat 16, 0]
def k0_off71 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 128]
def k0_off72 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 128]
def k0_off73 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 256]
def k0_off74 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 256]
def k0_off75 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 384]
def k0_off76 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 384]
def k0_off77 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 512]
def k0_off78 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 512]
def k0_off79 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 640]
def k0_off80 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 640]
def k0_off81 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 768]
def k0_off82 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 768]
def k0_off83 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 896]
def k0_off84 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 896]
def k0_off85 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1024]
def k0_off86 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1024]
def k0_off87 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1152]
def k0_off88 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1152]
def k0_off89 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1280]
def k0_off90 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1280]
def k0_off91 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1408]
def k0_off92 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1408]
def k0_off93 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1536]
def k0_off94 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1536]
def k0_off95 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1664]
def k0_off96 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1664]
def k0_off97 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1792]
def k0_off98 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1792]
def k0_off99 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 1920]
def k0_off100 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 1920]
def k0_off101 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2048]
def k0_off102 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2048]
def k0_off103 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2176]
def k0_off104 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2176]
def k0_off105 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2304]
def k0_off106 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2304]
def k0_off107 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2432]
def k0_off108 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2432]
def k0_off109 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2560]
def k0_off110 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2560]
def k0_off111 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2688]
def k0_off112 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2688]
def k0_off113 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2816]
def k0_off114 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2816]
def k0_off115 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 2944]
def k0_off116 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 2944]
def k0_off117 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3072]
def k0_off118 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3072]
def k0_off119 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3200]
def k0_off120 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3200]
def k0_off121 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3328]
def k0_off122 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3328]
def k0_off123 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3456]
def k0_off124 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3456]
def k0_off125 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3584]
def k0_off126 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3584]
def k0_off127 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3712]
def k0_off128 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3712]
def k0_off129 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3840]
def k0_off130 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3840]
def k0_off131 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![v276.toNat, 3968]
def k0_off132 (k0_t2 : Fin k0_t2_loop.trips) : Fin 2 → Nat :=
  let c0_i32_1 : BitVec 32 := 0#32
  let c1_i32 : BitVec 32 := 1#32
  let arg21 : BitVec 32 := Scf.iv c0_i32_1 c1_i32 k0_t2
  let c32_i32 : BitVec 32 := 32#32
  let v275 : BitVec 32 := Scalar.muli arg21 c32_i32
  let v276 : BitVec 32 := v275
  ![Nat.add v276.toNat 16, 3968]
def k0_cond2 (i : grid0.Coords) : BitVec 1 :=
  let arg0 : BitVec 32 := BitVec.ofNat 32 (i 0).val
  let c63_i32 : BitVec 32 := 63#32
  let v272 : BitVec 1 := Scalar.cmpi .eq arg0 c63_i32
  let v273 : BitVec 32 := Scalar.extui v272
  let c0_i32_118 : BitVec 32 := 0#32
  let v274 : BitVec 1 := Scalar.cmpi .ne v273 c0_i32_118
  v274

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S6 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S15x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S15x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S15x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S15x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S3x640x4096 : Shape := ⟨3, ![3, 640, 4096]⟩
abbrev S3x640x128 : Shape := ⟨3, ![3, 640, 128]⟩
abbrev S32768x4096 : Shape := ⟨2, ![32768, 4096]⟩
abbrev S32768x128 : Shape := ⟨2, ![32768, 128]⟩
abbrev S3x640 : Shape := ⟨2, ![3, 640]⟩
abbrev S12 : Shape := ⟨1, ![12]⟩
abbrev S6 : Shape := ⟨1, ![6]⟩
abbrev S32768x128x32 : Shape := ⟨3, ![32768, 128, 32]⟩
abbrev S32768x128x1 : Shape := ⟨3, ![32768, 128, 1]⟩
abbrev S3x640x128x32 : Shape := ⟨4, ![3, 640, 128, 32]⟩
abbrev S3x640x128x1 : Shape := ⟨4, ![3, 640, 128, 1]⟩
abbrev S1920x4096 : Shape := ⟨2, ![1920, 4096]⟩
abbrev S1920x32768 : Shape := ⟨2, ![1920, 32768]⟩
abbrev S1920 : Shape := ⟨1, ![1920]⟩
abbrev S1920x1 : Shape := ⟨2, ![1920, 1]⟩
abbrev S1920x12 : Shape := ⟨2, ![1920, 12]⟩
abbrev S6x12 : Shape := ⟨2, ![6, 12]⟩
abbrev S6x1 : Shape := ⟨2, ![6, 1]⟩
abbrev S1x12 : Shape := ⟨2, ![1, 12]⟩

abbrev nBuf : Space → Nat
  | .hbm => 14
  | .vmem => 14
  | .smem => 0
  | _ => 0

abbrev bufTy : (tb : Table) → Fin (tcTables nBuf tb) → BufTy
  | .hbm, ⟨0, _⟩ => ⟨S3x640x4096, .fp8e4m3⟩
  | .hbm, ⟨1, _⟩ => ⟨S3x640x128, .f32⟩
  | .hbm, ⟨2, _⟩ => ⟨S32768x4096, .fp8e4m3⟩
  | .hbm, ⟨3, _⟩ => ⟨S32768x128, .f32⟩
  | .hbm, ⟨4, _⟩ => ⟨S3x640, .i32⟩
  | .hbm, ⟨5, _⟩ => ⟨S3x640, .i32⟩
  | .hbm, ⟨6, _⟩ => ⟨S3x640, .i32⟩
  | .hbm, ⟨7, _⟩ => ⟨S12, .f32⟩
  | .hbm, ⟨8, _⟩ => ⟨S6, .i32⟩
  | .hbm, ⟨9, _⟩ => ⟨S6, .i32⟩
  | .hbm, ⟨10, _⟩ => ⟨S12, .f32⟩
  | .hbm, ⟨11, _⟩ => ⟨S6, .f32⟩
  | .hbm, ⟨12, _⟩ => ⟨S6, .f32⟩
  | .hbm, ⟨13, _⟩ => ⟨S3x640, .f32⟩
  | .local _ .vmem, ⟨0, _⟩ => ⟨S3x640x4096, .fp8e4m3⟩
  | .local _ .vmem, ⟨1, _⟩ => ⟨S3x640x128, .f32⟩
  | .local _ .vmem, ⟨2, _⟩ => ⟨S32768x4096, .fp8e4m3⟩
  | .local _ .vmem, ⟨3, _⟩ => ⟨S32768x128, .f32⟩
  | .local _ .vmem, ⟨4, _⟩ => ⟨S3x640, .i32⟩
  | .local _ .vmem, ⟨5, _⟩ => ⟨S3x640, .i32⟩
  | .local _ .vmem, ⟨6, _⟩ => ⟨S3x640, .i32⟩
  | .local _ .vmem, ⟨7, _⟩ => ⟨S12, .f32⟩
  | .local _ .vmem, ⟨8, _⟩ => ⟨S6, .i32⟩
  | .local _ .vmem, ⟨9, _⟩ => ⟨S6, .i32⟩
  | .local _ .vmem, ⟨10, _⟩ => ⟨S12, .f32⟩
  | .local _ .vmem, ⟨11, _⟩ => ⟨S6, .f32⟩
  | .local _ .vmem, ⟨12, _⟩ => ⟨S6, .f32⟩
  | .local _ .vmem, ⟨13, _⟩ => ⟨S3x640, .f32⟩
  | _, _ => ⟨S3x640x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x640x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x640 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Spec.lean ====
/- The mathematics of the problem over the extended reals, stated once for both programs: the widened operands, the
   logits, a token's log-probability, a sequence's masked sum, a pair's margin and its loss. -/
module

public import Idealize.ShloMosaic.Lib.Pointwise

@[expose] public section

noncomputable section

namespace Cert.Spec

open Idealize.ShloMosaic

/-- A row of the flattened token axis as its batch and its position. -/
def hi (r : Fin 1920) : Fin 3 := ⟨r.val / 640, by omega⟩
/-- The position of a flattened token row inside its batch. -/
def lo (r : Fin 1920) : Fin 640 := ⟨r.val % 640, by omega⟩
/-- The scale block of a feature. -/
def blk (k : Fin 4096) : Fin 128 := ⟨k.val / 32, by omega⟩

/-- An activation: its code times the scale of its block of 32 features. -/
def H (h : Vec Ideal ⟨3, ![3, 640, 4096]⟩ .fp8e4m3) (hs : Vec Ideal ⟨3, ![3, 640, 128]⟩ .f32) (r : Fin 1920) (k : Fin 4096) : EReal :=
  h (ix3 (hi r) (lo r) k) * hs (ix3 (hi r) (lo r) (blk k))

/-- A weight of the head: its code times the scale of its block of 32 features. -/
def W (w : Vec Ideal ⟨2, ![32768, 4096]⟩ .fp8e4m3) (ws : Vec Ideal ⟨2, ![32768, 128]⟩ .f32) (v : Fin 32768) (k : Fin 4096) : EReal :=
  w (ix2 v k) * ws (ix2 v (blk k))

/-- The logit of token row `r` at vocabulary entry `v`. -/
def logit (h : Vec Ideal ⟨3, ![3, 640, 4096]⟩ .fp8e4m3) (hs : Vec Ideal ⟨3, ![3, 640, 128]⟩ .f32)
    (w : Vec Ideal ⟨2, ![32768, 4096]⟩ .fp8e4m3) (ws : Vec Ideal ⟨2, ![32768, 128]⟩ .f32) (r : Fin 1920) (v : Fin 32768) : EReal :=
  ∑ k : Fin 4096, H h hs r k * W w ws v k

/-- The log-probability of the label `lab` under the logits `x`: the label's logit less the log-sum-exp. -/
def tokv (x : Fin 32768 → EReal) (lab : BitVec 32) : EReal :=
  (∑ v : Fin 32768, if BitVec.ofNat 32 v.val = lab then x v else 0)
    - (Finset.univ.sup x + Ideal.log (∑ v : Fin 32768, Ideal.exp (x v - Finset.univ.sup x)))

/-- The masked sum of the token log-probabilities of sequence `q`. -/
def polv (tok : Fin 1920 → EReal) (mask seg : Fin 1920 → BitVec 32) (q : ℕ) : EReal :=
  ∑ r : Fin 1920, if seg r = BitVec.ofNat 32 q then tok r * FloatOps.sitofp (F := Ideal) .f32 (mask r) else 0

/-- The entry of `f` that the word `i` names, zero if it names none. -/
def pick (f : Fin 12 → EReal) (i : BitVec 32) : EReal := ∑ q : Fin 12, if BitVec.ofNat 32 q.val = i then f q else 0

/-- A pair's margin: 0.1 times the chosen less the rejected log-ratio. -/
def margin (pol refl : Fin 12 → EReal) (pc pr : BitVec 32) : EReal :=
  Ideal.ofBits .f32 0x3DCCCCCD#32 * ((pick pol pc - pick refl pc) - (pick pol pr - pick refl pr))

/-- A pair's loss: the softplus of the margin's negative, in its stable form. -/
def loss (g : EReal) : EReal := max (-g) 0 + Ideal.log1p (Ideal.exp (-(max g (-g))))

end Cert.Spec

end
-- ==== Proof.Chunk.lean ====
/- One grid step on one chunk of 480 rows: the new running maximum, sum and target of each row and lane. -/
module

public import proofs.«01_k».proof.Proof.Gen.KernelIdeal.Frame
public import proofs.«01_k».proof.Proof.Spec
public import Idealize.ShloMosaic.Lib.Pointwise
public import Idealize.ShloMosaic.Lib.Pipeline.ReadBack

@[expose] public section

set_option maxRecDepth 16384

noncomputable section

namespace Cert.KernelIdeal.Chunk

open Idealize.ShloMosaic Idealize.ShloMosaic.Tactic Cert.KernelIdeal.Gen

/-- The chunk's product with the block of 512 head rows. -/
def prod (A : Vec Ideal S480x4096 .bf16) (B : Vec Ideal S512x4096 .bf16) : FVec Ideal S480x512 .f32 :=
  matmul (φ₁ := .bf16) (φ₂ := .bf16) dot_S480x4096_S512x4096_S480x512_1_1_0_0_n_n none A B (constant S480x512 .f32 0x00000000#32)

/-- Its four columns of 128 lanes. -/
abbrev col0 (P : FVec Ideal S480x512 .f32) : FVec Ideal S480x128 .f32 := extractStridedSlice S480x128 ![0, 0] P slices_S480x512_o0_0_S480x128
/-- The second 128 columns. -/
abbrev col1 (P : FVec Ideal S480x512 .f32) : FVec Ideal S480x128 .f32 := extractStridedSlice S480x128 ![0, 128] P slices_S480x512_o0_128_S480x128
/-- The third 128 columns. -/
abbrev col2 (P : FVec Ideal S480x512 .f32) : FVec Ideal S480x128 .f32 := extractStridedSlice S480x128 ![0, 256] P slices_S480x512_o0_256_S480x128
/-- The last 128 columns. -/
abbrev col3 (P : FVec Ideal S480x512 .f32) : FVec Ideal S480x128 .f32 := extractStridedSlice S480x128 ![0, 384] P slices_S480x512_o0_384_S480x128

/-- A column in units of the base-two exponential. -/
abbrev scaled (c : FVec Ideal S480x128 .f32) : FVec Ideal S480x128 .f32 := mulf c (broadcast S480x128 (Named.named κ "log2e" 0x3FB8AA3B#32))

/-- The new running maximum. -/
def newM (P : FVec Ideal S480x512 .f32) (m : Vec Ideal S480x128 .f32) : FVec Ideal S480x128 .f32 :=
  maximumf (maximumf (maximumf (maximumf m (scaled (col0 P))) (scaled (col1 P))) (scaled (col2 P))) (scaled (col3 P))

/-- The new running sum, over the new maximum `m'`. -/
def newS (P : FVec Ideal S480x512 .f32) (m' : FVec Ideal S480x128 .f32) (m s : Vec Ideal S480x128 .f32) : FVec Ideal S480x128 .f32 :=
  addf (addf (addf (addf (mulf s (exp2 (subf m m'))) (exp2 (subf (scaled (col0 P)) m'))) (exp2 (subf (scaled (col1 P)) m')))
    (exp2 (subf (scaled (col2 P)) m'))) (exp2 (subf (scaled (col3 P)) m'))

/-- The new target: each column's logit where the lane holds the row's label, else the old one. -/
def newT (n : BitVec 32) (P : FVec Ideal S480x512 .f32) (lab : Vec Ideal S480x128 .i32) (t : Vec Ideal S480x128 .f32) : FVec Ideal S480x128 .f32 :=
  select (cmpi .eq lab (broadcast S480x128 (Scalar.addi (Scalar.muli n 512#32) 384#32))) (col3 P)
    (select (cmpi .eq lab (broadcast S480x128 (Scalar.addi (Scalar.muli n 512#32) 256#32))) (col2 P)
      (select (cmpi .eq lab (broadcast S480x128 (Scalar.addi (Scalar.muli n 512#32) 128#32))) (col1 P)
        (select (cmpi .eq lab (broadcast S480x128 (Scalar.addi (Scalar.muli n 512#32) 0#32))) (col0 P) t)))

/-- The named constant is the reciprocal of the logarithm of two. -/
theorem log2e : (Named.named κ "log2e" (φ := .f32) 0x3FB8AA3B#32 : Ideal .f32) = (((Real.log 2)⁻¹ : ℝ) : EReal) := rfl

/-- A choice on the equality of two words. -/
theorem select_eq (a b : BitVec 32) (x y : EReal) : Scalar.select (IntOp.cmpi .eq a b) x y = if a = b then x else y := by
  by_cases h : a = b
  · rw [if_pos h]; simp [h, Scalar.select, IntOp.cmpi]
  · have hb : (a == b) = false := by simpa using h
    rw [if_neg h]; simp [hb, Scalar.select, IntOp.cmpi]

/-- The product at a row and a column. -/
theorem prod_apply (A : Vec Ideal S480x4096 .bf16) (B : Vec Ideal S512x4096 .bf16) (p : Fin 480) (v : Fin 512) :
    prod A B (ix2 p v) = ∑ k, A (ix2 p k) * B (ix2 v k) := by
  unfold prod
  pointwise

/-- The new maximum at a row and a lane. -/
theorem newM_apply (P : FVec Ideal S480x512 .f32) (m : Vec Ideal S480x128 .f32) (p : Fin 480) (l : Fin 128) :
    newM P m (ix2 p l) =
      max (max (max (max (m (ix2 p l)) (P (ix2 p ⟨l.val, by omega⟩) * (((Real.log 2)⁻¹ : ℝ) : EReal)))
        (P (ix2 p ⟨128 + l.val, by omega⟩) * (((Real.log 2)⁻¹ : ℝ) : EReal)))
        (P (ix2 p ⟨256 + l.val, by omega⟩) * (((Real.log 2)⁻¹ : ℝ) : EReal)))
        (P (ix2 p ⟨384 + l.val, by omega⟩) * (((Real.log 2)⁻¹ : ℝ) : EReal)) := by
  unfold newM
  pointwise [log2e]

/-- The new sum at a row and a lane. -/
theorem newS_apply (P : FVec Ideal S480x512 .f32) (m' : FVec Ideal S480x128 .f32) (m s : Vec Ideal S480x128 .f32) (p : Fin 480) (l : Fin 128) :
    newS P m' m s (ix2 p l) =
      s (ix2 p l) * Ideal.exp2 (m (ix2 p l) - m' (ix2 p l))
        + Ideal.exp2 (P (ix2 p ⟨l.val, by omega⟩) * (((Real.log 2)⁻¹ : ℝ) : EReal) - m' (ix2 p l))
        + Ideal.exp2 (P (ix2 p ⟨128 + l.val, by omega⟩) * (((Real.log 2)⁻¹ : ℝ) : EReal) - m' (ix2 p l))
        + Ideal.exp2 (P (ix2 p ⟨256 + l.val, by omega⟩) * (((Real.log 2)⁻¹ : ℝ) : EReal) - m' (ix2 p l))
        + Ideal.exp2 (P (ix2 p ⟨384 + l.val, by omega⟩) * (((Real.log 2)⁻¹ : ℝ) : EReal) - m' (ix2 p l)) := by
  unfold newS
  pointwise [log2e]
  rfl

/-- The new target at a row and a lane. -/
theorem newT_apply (n : BitVec 32) (P : FVec Ideal S480x512 .f32) (lab : Vec Ideal S480x128 .i32) (t : Vec Ideal S480x128 .f32) (p : Fin 480) (l : Fin 128) :
    newT n P lab t (ix2 p l) =
      if lab (ix2 p l) = n * 512#32 + 384#32 then P (ix2 p ⟨384 + l.val, by omega⟩)
      else if lab (ix2 p l) = n * 512#32 + 256#32 then P (ix2 p ⟨256 + l.val, by omega⟩)
      else if lab (ix2 p l) = n * 512#32 + 128#32 then P (ix2 p ⟨128 + l.val, by omega⟩)
      else if lab (ix2 p l) = n * 512#32 + 0#32 then P (ix2 p ⟨l.val, by omega⟩) else t (ix2 p l) := by
  unfold newT
  pointwise [select_eq]
  rfl

/-- The maxima stored for the rows from 0 on are the chunk function of what was loaded. -/
theorem m0 (A : Vec Ideal S480x4096 .bf16) (B : Vec Ideal S512x4096 .bf16) (m : Vec Ideal S480x128 .f32) :
    k0_pay406 (k0_pay393 A B) (k0_pay395 A B) (k0_pay397 A B) (k0_pay400 A B) m = newM (prod A B) m := shapeCast_self _ _

/-- The sums stored for the rows from 0 on are the chunk function of what was loaded. -/
theorem s0 (A : Vec Ideal S480x4096 .bf16) (B : Vec Ideal S512x4096 .bf16) (m s : Vec Ideal S480x128 .f32) :
    k0_pay405 (k0_pay393 A B) (k0_pay395 A B) (k0_pay397 A B) (k0_pay400 A B) m s = newS (prod A B) (newM (prod A B) m) m s := shapeCast_self _ _

/-- The label logits stored for the rows from 0 on are the chunk function of what was loaded. -/
theorem t0 (i : grid0.Coords) (A : Vec Ideal S480x4096 .bf16) (B : Vec Ideal S512x4096 .bf16) (lab : Vec Ideal S480x128 .i32)
    (t : Vec Ideal S480x128 .f32) :
    k0_pay403 (BitVec.ofNat 32 (i 0).val) (k0_pay393 A B) lab (k0_pay399 i A B lab t) = newT (BitVec.ofNat 32 (i 0).val) (prod A B) lab t := shapeCast_self _ _

/-- The maxima stored for the rows from 480 on are the chunk function of what was loaded. -/
theorem m480 (A : Vec Ideal S480x4096 .bf16) (B : Vec Ideal S512x4096 .bf16) (m : Vec Ideal S480x128 .f32) :
    k0_pay419 (k0_pay409 A B) (k0_pay411 A B) (k0_pay413 A B) (k0_pay415 A B) m = newM (prod A B) m := shapeCast_self _ _

/-- The sums stored for the rows from 480 on are the chunk function of what was loaded. -/
theorem s480 (A : Vec Ideal S480x4096 .bf16) (B : Vec Ideal S512x4096 .bf16) (m s : Vec Ideal S480x128 .f32) :
    k0_pay418 (k0_pay409 A B) (k0_pay411 A B) (k0_pay413 A B) (k0_pay415 A B) m s = newS (prod A B) (newM (prod A B) m) m s := shapeCast_self _ _

/-- The label logits stored for the rows from 480 on are the chunk function of what was loaded. -/
theorem t480 (i : grid0.Coords) (A : Vec Ideal S480x4096 .bf16) (B : Vec Ideal S512x4096 .bf16) (lab : Vec Ideal S480x128 .i32)
    (t : Vec Ideal S480x128 .f32) :
    k0_pay416 (BitVec.ofNat 32 (i 0).val) A B lab t = newT (BitVec.ofNat 32 (i 0).val) (prod A B) lab t := shapeCast_self _ _

/-- The maxima stored for the rows from 960 on are the chunk function of what was loaded. -/
theorem m960 (A : Vec Ideal S480x4096 .bf16) (B : Vec Ideal S512x4096 .bf16) (m : Vec Ideal S480x128 .f32) :
    k0_pay435 (k0_pay431 (k0_pay420 A B) (k0_pay423 A B) m) = newM (prod A B) m := shapeCast_self _ _

/-- The sums stored for the rows from 960 on are the chunk function of what was loaded. -/
theorem s960 (A : Vec Ideal S480x4096 .bf16) (B : Vec Ideal S512x4096 .bf16) (m s : Vec Ideal S480x128 .f32) :
    k0_pay434 (k0_pay429 (k0_pay420 A B)) (k0_pay431 (k0_pay420 A B) (k0_pay423 A B) m) (k0_pay432 (k0_pay420 A B) (k0_pay423 A B) m s) (k0_pay433 (k0_pay420 A B) (k0_pay423 A B) m) = newS (prod A B) (newM (prod A B) m) m s := shapeCast_self _ _

/-- The label logits stored for the rows from 960 on are the chunk function of what was loaded. -/
theorem t960 (i : grid0.Coords) (A : Vec Ideal S480x4096 .bf16) (B : Vec Ideal S512x4096 .bf16) (lab : Vec Ideal S480x128 .i32)
    (t : Vec Ideal S480x128 .f32) :
    k0_pay430 (BitVec.ofNat 32 (i 0).val) (k0_pay420 A B) lab (k0_pay422 (BitVec.ofNat 32 (i 0).val) A B lab t) = newT (BitVec.ofNat 32 (i 0).val) (prod A B) lab t := shapeCast_self _ _

/-- The maxima stored for the rows from 1440 on are the chunk function of what was loaded. -/
theorem m1440 (A : Vec Ideal S480x4096 .bf16) (B : Vec Ideal S512x4096 .bf16) (m : Vec Ideal S480x128 .f32) :
    k0_pay449 (k0_pay436 A B) (k0_pay438 A B) (k0_pay440 A B) (k0_pay441 A B) m = newM (prod A B) m := shapeCast_self _ _

/-- The sums stored for the rows from 1440 on are the chunk function of what was loaded. -/
theorem s1440 (A : Vec Ideal S480x4096 .bf16) (B : Vec Ideal S512x4096 .bf16) (m s : Vec Ideal S480x128 .f32) :
    k0_pay448 (k0_pay436 A B) (k0_pay438 A B) (k0_pay440 A B) (k0_pay441 A B) m s = newS (prod A B) (newM (prod A B) m) m s := shapeCast_self _ _

/-- The label logits stored for the rows from 1440 on are the chunk function of what was loaded. -/
theorem t1440 (i : grid0.Coords) (A : Vec Ideal S480x4096 .bf16) (B : Vec Ideal S512x4096 .bf16) (lab : Vec Ideal S480x128 .i32)
    (t : Vec Ideal S480x128 .f32) :
    k0_pay446 (BitVec.ofNat 32 (i 0).val) (k0_pay436 A B) lab (k0_pay442 (BitVec.ofNat 32 (i 0).val) A B lab t) = newT (BitVec.ofNat 32 (i 0).val) (prod A B) lab t := shapeCast_self _ _

/-- A row's logit in a column of the grid step's block of head rows. -/
def lg (hb : Vec Ideal S1920x4096 .bf16) (wb : Vec Ideal S512x4096 .bf16) (r : Fin 1920) (v : Fin 512) : EReal := ∑ k, hb (ix2 r k) * wb (ix2 v k)

/-- The same in units of the base-two exponential. -/
def yg (hb : Vec Ideal S1920x4096 .bf16) (wb : Vec Ideal S512x4096 .bf16) (r : Fin 1920) (v : Fin 512) : EReal :=
  lg hb wb r v * (((Real.log 2)⁻¹ : ℝ) : EReal)

/-- The grid step's new maxima, for all rows and lanes. -/
def stepM (hb : Vec Ideal S1920x4096 .bf16) (wb : Vec Ideal S512x4096 .bf16) (m : Vec Ideal S1920x128 .f32) : Vec Ideal S1920x128 .f32 := fun j =>
  have hl : (j 1).val < 128 := (j 1).isLt
  max (max (max (max (m j) (yg hb wb (j 0) ⟨(j 1).val, by omega⟩)) (yg hb wb (j 0) ⟨128 + (j 1).val, by omega⟩))
    (yg hb wb (j 0) ⟨256 + (j 1).val, by omega⟩)) (yg hb wb (j 0) ⟨384 + (j 1).val, by omega⟩)

/-- The grid step's new sums. -/
def stepS (hb : Vec Ideal S1920x4096 .bf16) (wb : Vec Ideal S512x4096 .bf16) (m s : Vec Ideal S1920x128 .f32) : Vec Ideal S1920x128 .f32 := fun j =>
  have hl : (j 1).val < 128 := (j 1).isLt
  s j * Ideal.exp2 (m j - stepM hb wb m j) + Ideal.exp2 (yg hb wb (j 0) ⟨(j 1).val, by omega⟩ - stepM hb wb m j)
    + Ideal.exp2 (yg hb wb (j 0) ⟨128 + (j 1).val, by omega⟩ - stepM hb wb m j)
    + Ideal.exp2 (yg hb wb (j 0) ⟨256 + (j 1).val, by omega⟩ - stepM hb wb m j)
    + Ideal.exp2 (yg hb wb (j 0) ⟨384 + (j 1).val, by omega⟩ - stepM hb wb m j)

/-- The grid step's new targets. -/
def stepT (n : BitVec 32) (hb : Vec Ideal S1920x4096 .bf16) (wb : Vec Ideal S512x4096 .bf16) (lab : Vec Ideal S1920x128 .i32)
    (t : Vec Ideal S1920x128 .f32) : Vec Ideal S1920x128 .f32 := fun j =>
  have hl : (j 1).val < 128 := (j 1).isLt
  if lab j = n * 512#32 + 384#32 then lg hb wb (j 0) ⟨384 + (j 1).val, by omega⟩
  else if lab j = n * 512#32 + 256#32 then lg hb wb (j 0) ⟨256 + (j 1).val, by omega⟩
  else if lab j = n * 512#32 + 128#32 then lg hb wb (j 0) ⟨128 + (j 1).val, by omega⟩
  else if lab j = n * 512#32 + 0#32 then lg hb wb (j 0) ⟨(j 1).val, by omega⟩ else t j

section
variable (hb : Vec Ideal S1920x4096 .bf16) (wb : Vec Ideal S512x4096 .bf16) (m s t : Vec Ideal S1920x128 .f32) (lab : Vec Ideal S1920x128 .i32)

/-- A chunk's product is the rows' logits. -/
theorem prod_ld (R : ℕ) (i1) (p : Fin 480) (hR : R + 480 ≤ 1920) (v : Fin 512) :
    prod (View.ld hb (Rect.unit (s := S1920x4096) ![R, 0] ![480, 4096] i1)) wb (ix2 p v) = lg hb wb ⟨R + p.val, by omega⟩ v := by
  refine (prod_apply _ _ p v).trans ?_
  unfold lg
  refine Finset.sum_congr rfl fun k _ => congrArg (· * wb (ix2 v k)) (congrArg hb ?_)
  funext b
  apply Fin.ext
  fin_cases b
  · show R + 1 * p.val = R + p.val; omega
  · show 0 + 1 * k.val = k.val; omega

/-- Where a chunk's row and lane lie in the array. -/
theorem chunk_idx (R : ℕ) (i2) (hR : R + 480 ≤ 1920) (p : Fin 480) (l : Fin 128) :
    (Rect.unit (s := S1920x128) ![R, 0] ![480, 128] i2).emb (ix2 p l) = ix2 ⟨R + p.val, by omega⟩ l := by
  funext b
  apply Fin.ext
  fin_cases b
  · show R + 1 * p.val = R + p.val; omega
  · show 0 + 1 * l.val = l.val; omega

/-- A load of a chunk, at a row and a lane. -/
theorem ld_chunk {e : EltTy} (X : Vec Ideal S1920x128 e) (R : ℕ) (i2) (hR : R + 480 ≤ 1920) (p : Fin 480) (l : Fin 128) :
    View.ld X (Rect.unit (s := S1920x128) ![R, 0] ![480, 128] i2) (ix2 p l) = X (ix2 ⟨R + p.val, by omega⟩ l) :=
  congrArg X (chunk_idx R i2 hR p l)

/-- A chunk of maxima is the same rows of the whole step. -/
theorem m_ok (R : ℕ) (i1 i2) (hR : R + 480 ≤ 1920) (p : Fin 480) (l : Fin 128) :
    newM (prod (View.ld hb (Rect.unit (s := S1920x4096) ![R, 0] ![480, 4096] i1)) wb)
      (View.ld m (Rect.unit (s := S1920x128) ![R, 0] ![480, 128] i2)) (ix2 p l) = stepM hb wb m (ix2 ⟨R + p.val, by omega⟩ l) := by
  refine (newM_apply _ _ p l).trans ?_
  simp only [prod_ld hb wb R i1 p hR, ld_chunk m R i2 hR]
  rfl

/-- A chunk of sums is the same rows of the whole step. -/
theorem s_ok (R : ℕ) (i1 i2) (hR : R + 480 ≤ 1920) (p : Fin 480) (l : Fin 128) :
    newS (prod (View.ld hb (Rect.unit (s := S1920x4096) ![R, 0] ![480, 4096] i1)) wb)
      (newM (prod (View.ld hb (Rect.unit (s := S1920x4096) ![R, 0] ![480, 4096] i1)) wb)
        (View.ld m (Rect.unit (s := S1920x128) ![R, 0] ![480, 128] i2)))
      (View.ld m (Rect.unit (s := S1920x128) ![R, 0] ![480, 128] i2))
      (View.ld s (Rect.unit (s := S1920x128) ![R, 0] ![480, 128] i2)) (ix2 p l) = stepS hb wb m s (ix2 ⟨R + p.val, by omega⟩ l) := by
  refine (newS_apply _ _ _ _ p l).trans ?_
  simp only [prod_ld hb wb R i1 p hR, ld_chunk m R i2 hR, ld_chunk s R i2 hR, m_ok hb wb m R i1 i2 hR]
  rfl

/-- A chunk of label logits is the same rows of the whole step. -/
theorem t_ok (n : BitVec 32) (R : ℕ) (i1 i2) (hR : R + 480 ≤ 1920) (p : Fin 480) (l : Fin 128) :
    newT n (prod (View.ld hb (Rect.unit (s := S1920x4096) ![R, 0] ![480, 4096] i1)) wb)
      (View.ld lab (Rect.unit (s := S1920x128) ![R, 0] ![480, 128] i2))
      (View.ld t (Rect.unit (s := S1920x128) ![R, 0] ![480, 128] i2)) (ix2 p l) = stepT n hb wb lab t (ix2 ⟨R + p.val, by omega⟩ l) := by
  refine (newT_apply _ _ _ _ p l).trans ?_
  simp only [prod_ld hb wb R i1 p hR, ld_chunk t R i2 hR, ld_chunk lab R i2 hR]
  rfl

/-- A chunk that agrees with an array at every row and lane is its block. -/
theorem piece_of (R : ℕ) (i2) (hR : R + 480 ≤ 1920) (V : FVec Ideal S480x128 .f32) (G : Vec Ideal S1920x128 .f32)
    (h : ∀ (p : Fin 480) (l : Fin 128), V (ix2 p l) = G (ix2 ⟨R + p.val, by omega⟩ l)) :
    ∀ x, V x = G ((Rect.unit (s := S1920x128) ![R, 0] ![480, 128] i2).emb x) := by
  intro x
  obtain ⟨p, l, rfl⟩ : ∃ (p : Fin 480) (l : Fin 128), x = ix2 p l := ⟨x 0, x 1, by funext b; fin_cases b <;> rfl⟩
  exact (h p l).trans (congrArg G (chunk_idx R i2 hR p l).symm)

/-- Four chunks that are blocks of one array, stored over anything, leave it. -/
theorem canon4 (G : Vec Ideal S1920x128 .f32) (L : List (View.Piece (Elt Ideal) S1920x128 .f32)) (V0 V1 V2 V3 : FVec Ideal S480x128 .f32)
    (h0 : ∀ (p : Fin 480) (l : Fin 128), V0 (ix2 p l) = G (ix2 ⟨0 + p.val, by omega⟩ l))
    (h1 : ∀ (p : Fin 480) (l : Fin 128), V1 (ix2 p l) = G (ix2 ⟨480 + p.val, by omega⟩ l))
    (h2 : ∀ (p : Fin 480) (l : Fin 128), V2 (ix2 p l) = G (ix2 ⟨960 + p.val, by omega⟩ l))
    (h3 : ∀ (p : Fin 480) (l : Fin 128), V3 (ix2 p l) = G (ix2 ⟨1440 + p.val, by omega⟩ l)) :
    View.canon (⟨Rect.unit ![1440, 0] ![480, 128] inb_S1920x128_S480x128_1440_0, V3⟩ :: ⟨Rect.unit ![960, 0] ![480, 128] inb_S1920x128_S480x128_960_0, V2⟩
      :: ⟨Rect.unit ![480, 0] ![480, 128] inb_S1920x128_S480x128_480_0, V1⟩ :: ⟨Rect.unit ![0, 0] ![480, 128] inb_S1920x128_S480x128_0_0, V0⟩ :: L) = G := by
  funext y
  exact View.canon_append_of_piecesOf G L
    [⟨Rect.unit ![1440, 0] ![480, 128] inb_S1920x128_S480x128_1440_0, V3⟩, ⟨Rect.unit ![960, 0] ![480, 128] inb_S1920x128_S480x128_960_0, V2⟩,
      ⟨Rect.unit ![480, 0] ![480, 128] inb_S1920x128_S480x128_480_0, V1⟩, ⟨Rect.unit ![0, 0] ![480, 128] inb_S1920x128_S480x128_0_0, V0⟩]
    ⟨piece_of 1440 inb_S1920x128_S480x128_1440_0 (by decide) V3 G h3, piece_of 960 inb_S1920x128_S480x128_960_0 (by decide) V2 G h2, piece_of 480 inb_S1920x128_S480x128_480_0 (by decide) V1 G h1, piece_of 0 inb_S1920x128_S480x128_0_0 (by decide) V0 G h0, trivial⟩ y
    (View.cover_of_tiledL _ (![480, 128]) (by sl_kernel_rfl) y)

/-- The four chunks' stores of the maxima. -/
theorem canonM (L : List (View.Piece (Elt Ideal) S1920x128 .f32)) :
    View.canon (⟨Rect.unit ![1440, 0] ![480, 128] inb_S1920x128_S480x128_1440_0, k0_pay449 (k0_pay436 (View.ld hb (Rect.unit ![1440, 0] ![480, 4096] inb_S1920x4096_S480x4096_1440_0)) wb) (k0_pay438 (View.ld hb (Rect.unit ![1440, 0] ![480, 4096] inb_S1920x4096_S480x4096_1440_0)) wb) (k0_pay440 (View.ld hb (Rect.unit ![1440, 0] ![480, 4096] inb_S1920x4096_S480x4096_1440_0)) wb) (k0_pay441 (View.ld hb (Rect.unit ![1440, 0] ![480, 4096] inb_S1920x4096_S480x4096_1440_0)) wb) (View.ld m (Rect.unit ![1440, 0] ![480, 128] inb_S1920x128_S480x128_1440_0))⟩
       :: ⟨Rect.unit ![960, 0] ![480, 128] inb_S1920x128_S480x128_960_0, k0_pay435 (k0_pay431 (k0_pay420 (View.ld hb (Rect.unit ![960, 0] ![480, 4096] inb_S1920x4096_S480x4096_960_0)) wb) (k0_pay423 (View.ld hb (Rect.unit ![960, 0] ![480, 4096] inb_S1920x4096_S480x4096_960_0)) wb) (View.ld m (Rect.unit ![960, 0] ![480, 128] inb_S1920x128_S480x128_960_0)))⟩
       :: ⟨Rect.unit ![480, 0] ![480, 128] inb_S1920x128_S480x128_480_0, k0_pay419 (k0_pay409 (View.ld hb (Rect.unit ![480, 0] ![480, 4096] inb_S1920x4096_S480x4096_480_0)) wb) (k0_pay411 (View.ld hb (Rect.unit ![480, 0] ![480, 4096] inb_S1920x4096_S480x4096_480_0)) wb) (k0_pay413 (View.ld hb (Rect.unit ![480, 0] ![480, 4096] inb_S1920x4096_S480x4096_480_0)) wb) (k0_pay415 (View.ld hb (Rect.unit ![480, 0] ![480, 4096] inb_S1920x4096_S480x4096_480_0)) wb) (View.ld m (Rect.unit ![480, 0] ![480, 128] inb_S1920x128_S480x128_480_0))⟩
       :: ⟨Rect.unit ![0, 0] ![480, 128] inb_S1920x128_S480x128_0_0, k0_pay406 (k0_pay393 (View.ld hb (Rect.unit ![0, 0] ![480, 4096] inb_S1920x4096_S480x4096_0_0)) wb) (k0_pay395 (View.ld hb (Rect.unit ![0, 0] ![480, 4096] inb_S1920x4096_S480x4096_0_0)) wb) (k0_pay397 (View.ld hb (Rect.unit ![0, 0] ![480, 4096] inb_S1920x4096_S480x4096_0_0)) wb) (k0_pay400 (View.ld hb (Rect.unit ![0, 0] ![480, 4096] inb_S1920x4096_S480x4096_0_0)) wb) (View.ld m (Rect.unit ![0, 0] ![480, 128] inb_S1920x128_S480x128_0_0))⟩
       :: L) = stepM hb wb m :=
  canon4 _ _ _ _ _ _ (fun p l => (congrFun (m0 _ _ _) _).trans (m_ok hb wb m 0 _ _ (by decide) p l)) (fun p l => (congrFun (m480 _ _ _) _).trans (m_ok hb wb m 480 _ _ (by decide) p l)) (fun p l => (congrFun (m960 _ _ _) _).trans (m_ok hb wb m 960 _ _ (by decide) p l)) (fun p l => (congrFun (m1440 _ _ _) _).trans (m_ok hb wb m 1440 _ _ (by decide) p l))

/-- The four chunks' stores of the sums. -/
theorem canonS (L : List (View.Piece (Elt Ideal) S1920x128 .f32)) :
    View.canon (⟨Rect.unit ![1440, 0] ![480, 128] inb_S1920x128_S480x128_1440_0, k0_pay448 (k0_pay436 (View.ld hb (Rect.unit ![1440, 0] ![480, 4096] inb_S1920x4096_S480x4096_1440_0)) wb) (k0_pay438 (View.ld hb (Rect.unit ![1440, 0] ![480, 4096] inb_S1920x4096_S480x4096_1440_0)) wb) (k0_pay440 (View.ld hb (Rect.unit ![1440, 0] ![480, 4096] inb_S1920x4096_S480x4096_1440_0)) wb) (k0_pay441 (View.ld hb (Rect.unit ![1440, 0] ![480, 4096] inb_S1920x4096_S480x4096_1440_0)) wb) (View.ld m (Rect.unit ![1440, 0] ![480, 128] inb_S1920x128_S480x128_1440_0)) (View.ld s (Rect.unit ![1440, 0] ![480, 128] inb_S1920x128_S480x128_1440_0))⟩
       :: ⟨Rect.unit ![960, 0] ![480, 128] inb_S1920x128_S480x128_960_0, k0_pay434 (k0_pay429 (k0_pay420 (View.ld hb (Rect.unit ![960, 0] ![480, 4096] inb_S1920x4096_S480x4096_960_0)) wb)) (k0_pay431 (k0_pay420 (View.ld hb (Rect.unit ![960, 0] ![480, 4096] inb_S1920x4096_S480x4096_960_0)) wb) (k0_pay423 (View.ld hb (Rect.unit ![960, 0] ![480, 4096] inb_S1920x4096_S480x4096_960_0)) wb) (View.ld m (Rect.unit ![960, 0] ![480, 128] inb_S1920x128_S480x128_960_0))) (k0_pay432 (k0_pay420 (View.ld hb (Rect.unit ![960, 0] ![480, 4096] inb_S1920x4096_S480x4096_960_0)) wb) (k0_pay423 (View.ld hb (Rect.unit ![960, 0] ![480, 4096] inb_S1920x4096_S480x4096_960_0)) wb) (View.ld m (Rect.unit ![960, 0] ![480, 128] inb_S1920x128_S480x128_960_0)) (View.ld s (Rect.unit ![960, 0] ![480, 128] inb_S1920x128_S480x128_960_0))) (k0_pay433 (k0_pay420 (View.ld hb (Rect.unit ![960, 0] ![480, 4096] inb_S1920x4096_S480x4096_960_0)) wb) (k0_pay423 (View.ld hb (Rect.unit ![960, 0] ![480, 4096] inb_S1920x4096_S480x4096_960_0)) wb) (View.ld m (Rect.unit ![960, 0] ![480, 128] inb_S1920x128_S480x128_960_0)))⟩
       :: ⟨Rect.unit ![480, 0] ![480, 128] inb_S1920x128_S480x128_480_0, k0_pay418 (k0_pay409 (View.ld hb (Rect.unit ![480, 0] ![480, 4096] inb_S1920x4096_S480x4096_480_0)) wb) (k0_pay411 (View.ld hb (Rect.unit ![480, 0] ![480, 4096] inb_S1920x4096_S480x4096_480_0)) wb) (k0_pay413 (View.ld hb (Rect.unit ![480, 0] ![480, 4096] inb_S1920x4096_S480x4096_480_0)) wb) (k0_pay415 (View.ld hb (Rect.unit ![480, 0] ![480, 4096] inb_S1920x4096_S480x4096_480_0)) wb) (View.ld m (Rect.unit ![480, 0] ![480, 128] inb_S1920x128_S480x128_480_0)) (View.ld s (Rect.unit ![480, 0] ![480, 128] inb_S1920x128_S480x128_480_0))⟩
       :: ⟨Rect.unit ![0, 0] ![480, 128] inb_S1920x128_S480x128_0_0, k0_pay405 (k0_pay393 (View.ld hb (Rect.unit ![0, 0] ![480, 4096] inb_S1920x4096_S480x4096_0_0)) wb) (k0_pay395 (View.ld hb (Rect.unit ![0, 0] ![480, 4096] inb_S1920x4096_S480x4096_0_0)) wb) (k0_pay397 (View.ld hb (Rect.unit ![0, 0] ![480, 4096] inb_S1920x4096_S480x4096_0_0)) wb) (k0_pay400 (View.ld hb (Rect.unit ![0, 0] ![480, 4096] inb_S1920x4096_S480x4096_0_0)) wb) (View.ld m (Rect.unit ![0, 0] ![480, 128] inb_S1920x128_S480x128_0_0)) (View.ld s (Rect.unit ![0, 0] ![480, 128] inb_S1920x128_S480x128_0_0))⟩
       :: L) = stepS hb wb m s :=
  canon4 _ _ _ _ _ _ (fun p l => (congrFun (s0 _ _ _ _) _).trans (s_ok hb wb m s 0 _ _ (by decide) p l)) (fun p l => (congrFun (s480 _ _ _ _) _).trans (s_ok hb wb m s 480 _ _ (by decide) p l)) (fun p l => (congrFun (s960 _ _ _ _) _).trans (s_ok hb wb m s 960 _ _ (by decide) p l)) (fun p l => (congrFun (s1440 _ _ _ _) _).trans (s_ok hb wb m s 1440 _ _ (by decide) p l))

/-- The four chunks' stores of the targets. -/
theorem canonT (i : grid0.Coords) (L : List (View.Piece (Elt Ideal) S1920x128 .f32)) :
    View.canon (⟨Rect.unit ![1440, 0] ![480, 128] inb_S1920x128_S480x128_1440_0, k0_pay446 (BitVec.ofNat 32 (i 0).val) (k0_pay436 (View.ld hb (Rect.unit ![1440, 0] ![480, 4096] inb_S1920x4096_S480x4096_1440_0)) wb) (View.ld lab (Rect.unit ![1440, 0] ![480, 128] inb_S1920x128_S480x128_1440_0)) (k0_pay442 (BitVec.ofNat 32 (i 0).val) (View.ld hb (Rect.unit ![1440, 0] ![480, 4096] inb_S1920x4096_S480x4096_1440_0)) wb (View.ld lab (Rect.unit ![1440, 0] ![480, 128] inb_S1920x128_S480x128_1440_0)) (View.ld t (Rect.unit ![1440, 0] ![480, 128] inb_S1920x128_S480x128_1440_0)))⟩
       :: ⟨Rect.unit ![960, 0] ![480, 128] inb_S1920x128_S480x128_960_0, k0_pay430 (BitVec.ofNat 32 (i 0).val) (k0_pay420 (View.ld hb (Rect.unit ![960, 0] ![480, 4096] inb_S1920x4096_S480x4096_960_0)) wb) (View.ld lab (Rect.unit ![960, 0] ![480, 128] inb_S1920x128_S480x128_960_0)) (k0_pay422 (BitVec.ofNat 32 (i 0).val) (View.ld hb (Rect.unit ![960, 0] ![480, 4096] inb_S1920x4096_S480x4096_960_0)) wb (View.ld lab (Rect.unit ![960, 0] ![480, 128] inb_S1920x128_S480x128_960_0)) (View.ld t (Rect.unit ![960, 0] ![480, 128] inb_S1920x128_S480x128_960_0)))⟩
       :: ⟨Rect.unit ![480, 0] ![480, 128] inb_S1920x128_S480x128_480_0, k0_pay416 (BitVec.ofNat 32 (i 0).val) (View.ld hb (Rect.unit ![480, 0] ![480, 4096] inb_S1920x4096_S480x4096_480_0)) wb (View.ld lab (Rect.unit ![480, 0] ![480, 128] inb_S1920x128_S480x128_480_0)) (View.ld t (Rect.unit ![480, 0] ![480, 128] inb_S1920x128_S480x128_480_0))⟩
       :: ⟨Rect.unit ![0, 0] ![480, 128] inb_S1920x128_S480x128_0_0, k0_pay403 (BitVec.ofNat 32 (i 0).val) (k0_pay393 (View.ld hb (Rect.unit ![0, 0] ![480, 4096] inb_S1920x4096_S480x4096_0_0)) wb) (View.ld lab (Rect.unit ![0, 0] ![480, 128] inb_S1920x128_S480x128_0_0)) (k0_pay399 i (View.ld hb (Rect.unit ![0, 0] ![480, 4096] inb_S1920x4096_S480x4096_0_0)) wb (View.ld lab (Rect.unit ![0, 0] ![480, 128] inb_S1920x128_S480x128_0_0)) (View.ld t (Rect.unit ![0, 0] ![480, 128] inb_S1920x128_S480x128_0_0)))⟩
       :: L) = stepT (BitVec.ofNat 32 (i 0).val) hb wb lab t :=
  canon4 _ _ _ _ _ _ (fun p l => (congrFun (t0 i _ _ _ _) _).trans (t_ok hb wb t lab _ 0 _ _ (by decide) p l)) (fun p l => (congrFun (t480 i _ _ _ _) _).trans (t_ok hb wb t lab _ 480 _ _ (by decide) p l)) (fun p l => (congrFun (t960 i _ _ _ _) _).trans (t_ok hb wb t lab _ 960 _ _ (by decide) p l)) (fun p l => (congrFun (t1440 i _ _ _ _) _).trans (t_ok hb wb t lab _ 1440 _ _ (by decide) p l))

end

end Cert.KernelIdeal.Chunk

end
-- ==== Proof.Widen.lean ====
/- One tile of the widening: sixteen rows of codes in a 128-lane column, each multiplied by the scale its lane gathers. -/
module

public import proofs.«01_k».proof.Proof.Gen.KernelIdeal.Frame
public import Idealize.ShloMosaic.Lib.Pointwise
public import Idealize.ShloMosaic.Lib.Pipeline.ReadBack

@[expose] public section

set_option maxRecDepth 16384

noncomputable section

namespace Cert.KernelIdeal.Widen

open Idealize.ShloMosaic Idealize.ShloMosaic.TcCoe Idealize.ShloMosaic.Tactic Cert.KernelIdeal.Gen
open Idealize.SL Idealize.SL.RA Idealize.SL.BI

/-- The scale block of a lane inside a 128-lane column, as the kernel computes it: the lane's number divided by 32, rounded down. -/
abbrev laneBlk : IVec S16x128 32 :=
  select
    (andi
      (cmpi CmpIPredicate.ne
        (subi (extui 32 (cmpi CmpIPredicate.sgt (iota .tc S16x128 32 [1] iota_S16x128_d1_w32) (broadcast S16x128 0#32)) natLt_1_32)
          (extui 32 (cmpi CmpIPredicate.slt (iota .tc S16x128 32 [1] iota_S16x128_d1_w32) (broadcast S16x128 0#32)) natLt_1_32))
        (broadcast S16x128 1#32))
      (cmpi CmpIPredicate.ne (remsi (iota .tc S16x128 32 [1] iota_S16x128_d1_w32) (broadcast S16x128 32#32)) (broadcast S16x128 0#32)))
    (subi (divsi (iota .tc S16x128 32 [1] iota_S16x128_d1_w32) (broadcast S16x128 32#32)) (broadcast S16x128 1#32))
    (divsi (iota .tc S16x128 32 [1] iota_S16x128_d1_w32) (broadcast S16x128 32#32))

/-- The lanes a column gathers its scales from: its lanes' blocks past the column's first block `o`. -/
abbrev gIdx (L : IVec S16x128 32) (o : BitVec 32) : IVec S16x128 32 :=
  shapeCast S16x128
    (shapeCast S16x128x1
      (select (cmpi CmpIPredicate.slt (addi L (broadcast S16x128 o)) (broadcast S16x128 0#32))
        (addi (addi L (broadcast S16x128 o)) (broadcast S16x128 128#32))
        (addi L (broadcast S16x128 o)))
      shapeCasts_S16x128_S16x128x1)
    shapeCasts_S16x128x1_S16x128

/-- Lane `l`'s block is `l / 32`. -/
theorem laneBlk_apply (p : Fin 16) (l : Fin 128) : laneBlk (ix2 p l) = BitVec.ofNat 32 (l.val / 32) := by
  pointwise
  revert l
  decide +kernel

/-- A column that begins at block `o` gathers, in lane `l`, from lane `l / 32 + o`. -/
theorem gIdx_apply (L : IVec S16x128 32) (o : BitVec 32) (p : Fin 16) (l : Fin 128) (ho : o.toNat ≤ 124)
    (hl : L (ix2 p l) = BitVec.ofNat 32 (l.val / 32)) : (gIdx L o (ix2 p l)).toNat = l.val / 32 + o.toNat := by
  pointwise [hl]
  have hs : IntOp.addi (BitVec.ofNat 32 (l.val / 32)) o = BitVec.ofNat 32 (l.val / 32 + o.toNat) := by
    apply BitVec.eq_of_toNat_eq
    simp [IntOp.addi]
  rw [hs]
  have hlt : l.val / 32 + o.toNat < 128 := by omega
  generalize l.val / 32 + o.toNat = n at hlt
  revert n
  decide +kernel

/-- One stored tile: sixteen of a column's 32 rows of codes, from row `h`, times the gathered scales. -/
abbrev piece (h : ℕ) (hh : S32x128.Slices ![h, 0] S16x128) (o : BitVec 32) (codes : Vec Ideal S32x128 .fp8e4m3) (sc : Vec Ideal S16x128 .f32) :
    FVec Ideal S16x128 .bf16 :=
  mulf (extractStridedSlice S16x128 ![h, 0] (extf FTy.bf16 codes bitsLt_fp8e4m3_bf16) hh)
    (truncf FTy.bf16 (dynamicGather 1 sc (gIdx laneBlk o)) bitsLt_bf16_f32)

/-- A tile's product at row `p`, lane `l`, whatever scales `D` were gathered. -/
theorem mulTile_apply (h : ℕ) (hh : S32x128.Slices ![h, 0] S16x128) (codes : Vec Ideal S32x128 .fp8e4m3)
    (D : FVec Ideal S16x128 .f32) (hb : h + 16 ≤ 32) (p : Fin 16) (l : Fin 128) :
    mulf (extractStridedSlice S16x128 ![h, 0] (extf FTy.bf16 codes bitsLt_fp8e4m3_bf16) hh)
        (truncf FTy.bf16 D bitsLt_bf16_f32) (ix2 p l)
      = codes (ix2 ⟨h + p.val, by omega⟩ l) * D (ix2 p l) := by
  pointwise

/-- Row `p`, lane `l` of a tile: the code times the scale of the lane's block. -/
theorem piece_apply (h : ℕ) (hh : S32x128.Slices ![h, 0] S16x128) (o : BitVec 32) (codes : Vec Ideal S32x128 .fp8e4m3)
    (sc : Vec Ideal S16x128 .f32) (ho : o.toNat ≤ 124) (hb : h + 16 ≤ 32) (p : Fin 16) (l : Fin 128) :
    piece h hh o codes sc (ix2 p l) =
      codes (ix2 ⟨h + p.val, by omega⟩ l) * sc (ix2 p ⟨l.val / 32 + o.toNat, by omega⟩) := by
  refine (mulTile_apply h hh codes _ hb p l).trans ?_
  congr 1
  have hg := gIdx_apply laneBlk o p l ho (laneBlk_apply p l)
  generalize gIdx laneBlk o = J at hg
  show sc _ = sc _
  congr 1
  funext b
  fin_cases b
  · rfl
  · apply Fin.ext
    show (J (ix2 p l)).toNat % 128 = _
    rw [hg]; show _ = l.val / 32 + o.toNat; omega

/-- A widened array of `N` rows: each code times the scale of its row and block of 32 columns. -/
def wide {N : ℕ} (codes : FVec Ideal ⟨2, ![N, 4096]⟩ .fp8e4m3) (sc : FVec Ideal ⟨2, ![N, 128]⟩ .f32) : FVec Ideal ⟨2, ![N, 4096]⟩ .bf16 :=
  fun i => codes i * sc (ix2 (i 0) ⟨(i 1).val / 32, by have : (i 1).val < 4096 := (i 1).isLt; omega⟩)

/-- The tile's rectangle lies in the array, as its 32 rows and its column do. -/
theorem tile_inb {N R R' h C : ℕ} (hR : R' = R + h) (hb : h + 16 ≤ 32)
    (i2 : ∀ a, (![R, 0] : Fin 2 → ℕ) a + S32x4096.size a ≤ (⟨2, ![N, 4096]⟩ : Shape).size a)
    (i3 : ∀ a, (![0, C] : Fin 2 → ℕ) a + S32x128.size a ≤ S32x4096.size a) :
    ∀ a, (![R', C] : Fin 2 → ℕ) a + (![16, 128] : Fin 2 → ℕ) a ≤ (⟨2, ![N, 4096]⟩ : Shape).size a := by
  have h2 : R + 32 ≤ N := i2 0
  have h3 : 0 + 0 + C + 128 ≤ 4096 := by have : C + 128 ≤ 4096 := i3 1; omega
  intro a
  fin_cases a
  · show R' + 16 ≤ N; omega
  · show C + 128 ≤ 4096; omega

/-- A stored tile is the widened array on its rectangle: the tile of rows `R + h …` and of columns `C …`, its codes read from the rows
`R …` and columns `C …`, and its scales from the rows `R + h …`. -/
theorem piece_ok {N : ℕ} (a : Memref sig .tc .vmem ⟨2, ![N, 4096]⟩ .fp8e4m3) (b : Memref sig .tc .vmem ⟨2, ![N, 128]⟩ .f32)
    (X : a.view.ty.Contents (Elt Ideal)) (Y : b.view.ty.Contents (Elt Ideal)) (R R' h C : ℕ) (hR : R' = R + h) (o : BitVec 32)
    (hh : S32x128.Slices ![h, 0] S16x128) (hC : C = 32 * o.toNat) (ho : o.toNat ≤ 124) (hb : h + 16 ≤ 32)
    {i2 i3 i4 i5 i6 i7}
    (c' : Vec Ideal S32x128 .fp8e4m3) (s' : Vec Ideal S16x128 .f32)
    (hc : c' = View.readAt (Elt Ideal) a.view
      ((Rect.unit (s := ⟨2, ![N, 4096]⟩) ![R, 0] S32x4096.size i2).withinL (Rect.unit (s := S32x4096) ![0, C] S32x128.size i3).toLoadRect i4) X)
    (hs : s' = View.readAt (Elt Ideal) b.view
      ((Rect.unit (s := ⟨2, ![N, 128]⟩) ![R, 0] S32x128.size i5).withinL (Rect.unit (s := S32x128) ![h, 0] S16x128.size i6).toLoadRect i7) Y) :
    ∀ x, piece h hh o c' s' x
      = wide (a.view.read (Elt Ideal) X) (b.view.read (Elt Ideal) Y) ((Rect.unit (s := ⟨2, ![N, 4096]⟩) ![R', C] ![16, 128] (tile_inb hR hb i2 i3)).emb x) := by
  subst hR hc hs
  intro x
  obtain ⟨p, l, rfl⟩ : ∃ (p : Fin 16) (l : Fin 128), x = ix2 p l := ⟨x 0, x 1, by funext b; fin_cases b <;> rfl⟩
  refine (piece_apply h hh o _ _ ho hb p l).trans ?_
  refine congrArg₂ (· * ·) (congrArg (View.read (Elt Ideal) a.view X) ?_) (congrArg (View.read (Elt Ideal) b.view Y) ?_)
  · funext q
    apply Fin.ext
    fin_cases q
    · show (R + 0) + 1 * (h + p.val) = (R + h) + 1 * p.val; omega
    · show (0 + C) + 1 * l.val = C + 1 * l.val; omega
  · funext q
    apply Fin.ext
    fin_cases q
    · show (R + h) + 1 * p.val = (R + h) + 1 * p.val; rfl
    · show (0 + 0) + 1 * (l.val / 32 + o.toNat) = (C + 1 * l.val) / 32; omega

/-- Pieces of one array, appended, are pieces of it. -/
theorem piecesOf_append {s : Shape} {e : EltTy} {G : s.Idx → Elt Ideal e} : ∀ {L K : List (View.Piece (Elt Ideal) s e)},
    View.PiecesOf G L → View.PiecesOf G K → View.PiecesOf G (L ++ K)
  | [], _, _, h => h
  | _ :: _, _, h, h' => ⟨h.1, piecesOf_append h.2 h'⟩

set_option maxHeartbeats 4000000 in
/-- Every tile that one trip of the loop over 1920 rows stores is the widened array on its rectangle. -/
theorem trip_t1 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (k0_h1 : k0_cond1 i = 1#1) (X_arg4 : BufTy.Contents (Elt Ideal) arg4.view.ty) (X_arg5 : BufTy.Contents (Elt Ideal) arg5.view.ty)  (k : Fin k0_t1_loop.trips) :
    View.PiecesOf (wide (arg4.view.read (Elt Ideal) X_arg4) (arg5.view.read (Elt Ideal) X_arg5))
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 k) := by
  unfold tripL_k0_t1 trip_k0_t1
  dsimp only
  sl_unfold_words
  simp only [shapeCast_self, k0_pay156]
  repeat
    refine ⟨piece_ok arg4 arg5 X_arg4 X_arg5 _ _ 16 _ (by rfl) _ slices_S32x128_o16_0_S16x128 (by decide) (by decide) (by decide) _ _ (shapeCast_self _ _) (shapeCast_self _ _),
      piece_ok arg4 arg5 X_arg4 X_arg5 _ _ 0 _ (by rfl) _ slices_S32x128_o0_0_S16x128 (by decide) (by decide) (by decide) _ _ (shapeCast_self _ _) (shapeCast_self _ _), ?_⟩
  exact trivial

/-- So is every tile of the trips before `k`. -/
theorem pieces_t1 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (k0_h1 : k0_cond1 i = 1#1) (X_arg4 : BufTy.Contents (Elt Ideal) arg4.view.ty) (X_arg5 : BufTy.Contents (Elt Ideal) arg5.view.ty)  : ∀ k ≤ k0_t1_loop.trips,
    View.PiecesOf (wide (arg4.view.read (Elt Ideal) X_arg4) (arg5.view.read (Elt Ideal) X_arg5))
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 k)
  | 0, _ => trivial
  | k + 1, h => by
    rw [pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 ⟨k, h⟩]
    exact piecesOf_append (trip_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 ⟨k, h⟩) (pieces_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 k (Nat.le_of_lt h))

/-- The tiles of all trips leave the widened array. -/
theorem canon_t1 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (k0_h1 : k0_cond1 i = 1#1) (X_arg4 : BufTy.Contents (Elt Ideal) arg4.view.ty) (X_arg5 : BufTy.Contents (Elt Ideal) arg5.view.ty)  :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 (Scf.trips (0#32) (Scalar.addi 0#32 60#32) 1#32))
      = wide (arg4.view.read (Elt Ideal) X_arg4) (arg5.view.read (Elt Ideal) X_arg5) := by
  funext y
  exact View.canon_apply_of_pieces _ _ (View.PiecesOf.mem (pieces_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg4 X_arg5 _ (le_refl _))) y
    (View.cover_of_tiledL _ (![16, 128]) (by sl_kernel_rfl) y)

set_option maxHeartbeats 4000000 in
/-- Every tile that one trip of the loop over 512 rows stores is the widened array on its rectangle. -/
theorem trip_t2 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (X_arg6 : BufTy.Contents (Elt Ideal) arg6.view.ty) (X_arg7 : BufTy.Contents (Elt Ideal) arg7.view.ty)  (k : Fin k0_t2_loop.trips) :
    View.PiecesOf (wide (arg6.view.read (Elt Ideal) X_arg6) (arg7.view.read (Elt Ideal) X_arg7))
      (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 k) := by
  unfold tripL_k0_t2 trip_k0_t2
  dsimp only
  sl_unfold_words
  simp only [shapeCast_self, k0_pay392]
  repeat
    refine ⟨piece_ok arg6 arg7 X_arg6 X_arg7 _ _ 16 _ (by rfl) _ slices_S32x128_o16_0_S16x128 (by decide) (by decide) (by decide) _ _ rfl rfl,
      piece_ok arg6 arg7 X_arg6 X_arg7 _ _ 0 _ (by rfl) _ slices_S32x128_o0_0_S16x128 (by decide) (by decide) (by decide) _ _ rfl rfl, ?_⟩
  exact trivial

/-- So is every tile of the trips before `k`. -/
theorem pieces_t2 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (X_arg6 : BufTy.Contents (Elt Ideal) arg6.view.ty) (X_arg7 : BufTy.Contents (Elt Ideal) arg7.view.ty)  : ∀ k ≤ k0_t2_loop.trips,
    View.PiecesOf (wide (arg6.view.read (Elt Ideal) X_arg6) (arg7.view.read (Elt Ideal) X_arg7))
      (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 k)
  | 0, _ => trivial
  | k + 1, h => by
    rw [pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 ⟨k, h⟩]
    exact piecesOf_append (trip_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 ⟨k, h⟩) (pieces_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 k (Nat.le_of_lt h))

/-- The tiles of all trips leave the widened array. -/
theorem canon_t2 (𝒱 : Variants) (c : Dev nD) (bd : Option 𝒱.V) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (X_arg6 : BufTy.Contents (Elt Ideal) arg6.view.ty) (X_arg7 : BufTy.Contents (Elt Ideal) arg7.view.ty)  :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 (Scf.trips (0#32) (Scalar.addi 0#32 16#32) 1#32))
      = wide (arg6.view.read (Elt Ideal) X_arg6) (arg7.view.read (Elt Ideal) X_arg7) := by
  funext y
  exact View.canon_apply_of_pieces _ _ (View.PiecesOf.mem (pieces_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg6 X_arg7 _ (le_refl _))) y
    (View.cover_of_tiledL _ (![16, 128]) (by sl_kernel_rfl) y)

end Cert.KernelIdeal.Widen

end
-- ==== Proof.Label.lean ====
/- The labels as the kernel keeps them: each row's label less the lane. -/
module

public import proofs.«01_k».proof.Proof.Gen.KernelIdeal.Frame
public import Idealize.ShloMosaic.Lib.Pointwise
public import Idealize.ShloMosaic.Lib.Pipeline.ReadBack

@[expose] public section

set_option maxRecDepth 16384

noncomputable section

namespace Cert.KernelIdeal.Label

open Idealize.ShloMosaic Idealize.ShloMosaic.Tactic Cert.KernelIdeal.Gen

/-- One tile: a row of 128 labels stood up, less the lane. -/
abbrev tile (X : IVec S1x128 32) : IVec S128x128 32 :=
  subi (transpose S128x128 [1, 0] (broadcastTo S128x128 X broadcasts_S1x128_S128x128) transposes_S128x128_p1_0_S128x128)
    (iota .tc S128x128 32 [1] iota_S128x128_d1_w32)

/-- A tile of labels at an index: the label less the lane. -/
theorem tile_apply (X : IVec S1x128 32) (p l : Fin 128) : tile X (ix2 p l) = X (ix2 0 p) - BitVec.ofNat 32 l.val := by
  pointwise
  rfl

/-- Each row's label less the lane. -/
def labL (x7 : Vec Ideal S15x128 .i32) : Vec Ideal S1920x128 .i32 := fun j =>
  have h : (j 0).val < 1920 := (j 0).isLt
  (show BitVec 32 from x7 (ix2 ⟨(j 0).val / 128, by omega⟩ ⟨(j 0).val % 128, by omega⟩)) - BitVec.ofNat 32 (j 1).val

/-- A tile's rectangle lies in the array. -/
theorem tile_inb {q R : ℕ} (hR : R = 128 * q) (hq : q < 15) :
    ∀ a, (![R, 0] : Fin 2 → ℕ) a + (![128, 128] : Fin 2 → ℕ) a ≤ S1920x128.size a := by
  intro a
  fin_cases a
  · show R + 128 ≤ 1920; omega
  · show 0 + 128 ≤ 128; omega

/-- A stored tile is a block of that array. -/
theorem tile_ok (x7 : Vec Ideal S15x128 .i32) (q R : ℕ) (hR : R = 128 * q) (hq : q < 15) (i1 h1 h2 h3) :
    ∀ x, shapeCast S128x128 (tile (shapeCast S1x128 (shapeCast S1x128 (View.ld x7 (Rect.unit (s := S15x128) ![q, 0] ![1, 128] i1)) h1) h2)) h3 x
      = labL x7 ((Rect.unit (s := S1920x128) ![R, 0] ![128, 128] (tile_inb hR hq)).emb x) := by
  intro x
  subst hR
  obtain ⟨p, l, rfl⟩ : ∃ (p l : Fin 128), x = ix2 p l := ⟨x 0, x 1, by funext b; fin_cases b <;> rfl⟩
  rw [shapeCast_self, shapeCast_self]
  refine (tile_apply _ p l).trans ?_
  unfold labL
  have e0 : ((Rect.unit (s := S1920x128) ![128 * q, 0] ![128, 128] (tile_inb rfl hq)).emb (ix2 p l) 0).val = 128 * q + 1 * p.val := rfl
  have e1 : ((Rect.unit (s := S1920x128) ![128 * q, 0] ![128, 128] (tile_inb rfl hq)).emb (ix2 p l) 1).val = 0 + 1 * l.val := rfl
  refine congrArg₂ (fun a b : BitVec 32 => a - b) ?_ ?_
  · refine (congrFun (shapeCast_self _ h1) _).trans (congrArg x7 ?_)
    funext b
    apply Fin.ext
    fin_cases b
    · show q + 1 * 0 = _ / 128; rw [e0]; omega
    · show 0 + 1 * p.val = _ % 128; rw [e0]; omega
  · rw [e1]; congr 1; omega

/-- The fifteen tiles leave that array. -/
theorem canonL (x7 : Vec Ideal S15x128 .i32) :
    View.canon (Val := Elt Ideal) (s := S1920x128) (e := .i32) [⟨Rect.unit ![1792, 0] ![128, 128] inb_S1920x128_S128x128_1792_0,
      shapeCast S128x128 (tile (shapeCast S1x128 (shapeCast S1x128 (View.ld x7 (Rect.unit ![14, 0] ![1, 128] inb_S15x128_S1x128_14_0)) shapeCasts_S1x128_S1x128) shapeCasts_S1x128_S1x128)) shapeCasts_S128x128_S128x128⟩,
      ⟨Rect.unit ![1664, 0] ![128, 128] inb_S1920x128_S128x128_1664_0,
      shapeCast S128x128 (tile (shapeCast S1x128 (shapeCast S1x128 (View.ld x7 (Rect.unit ![13, 0] ![1, 128] inb_S15x128_S1x128_13_0)) shapeCasts_S1x128_S1x128) shapeCasts_S1x128_S1x128)) shapeCasts_S128x128_S128x128⟩,
      ⟨Rect.unit ![1536, 0] ![128, 128] inb_S1920x128_S128x128_1536_0,
      shapeCast S128x128 (tile (shapeCast S1x128 (shapeCast S1x128 (View.ld x7 (Rect.unit ![12, 0] ![1, 128] inb_S15x128_S1x128_12_0)) shapeCasts_S1x128_S1x128) shapeCasts_S1x128_S1x128)) shapeCasts_S128x128_S128x128⟩,
      ⟨Rect.unit ![1408, 0] ![128, 128] inb_S1920x128_S128x128_1408_0,
      shapeCast S128x128 (tile (shapeCast S1x128 (shapeCast S1x128 (View.ld x7 (Rect.unit ![11, 0] ![1, 128] inb_S15x128_S1x128_11_0)) shapeCasts_S1x128_S1x128) shapeCasts_S1x128_S1x128)) shapeCasts_S128x128_S128x128⟩,
      ⟨Rect.unit ![1280, 0] ![128, 128] inb_S1920x128_S128x128_1280_0,
      shapeCast S128x128 (tile (shapeCast S1x128 (shapeCast S1x128 (View.ld x7 (Rect.unit ![10, 0] ![1, 128] inb_S15x128_S1x128_10_0)) shapeCasts_S1x128_S1x128) shapeCasts_S1x128_S1x128)) shapeCasts_S128x128_S128x128⟩,
      ⟨Rect.unit ![1152, 0] ![128, 128] inb_S1920x128_S128x128_1152_0,
      shapeCast S128x128 (tile (shapeCast S1x128 (shapeCast S1x128 (View.ld x7 (Rect.unit ![9, 0] ![1, 128] inb_S15x128_S1x128_9_0)) shapeCasts_S1x128_S1x128) shapeCasts_S1x128_S1x128)) shapeCasts_S128x128_S128x128⟩,
      ⟨Rect.unit ![1024, 0] ![128, 128] inb_S1920x128_S128x128_1024_0,
      shapeCast S128x128 (tile (shapeCast S1x128 (shapeCast S1x128 (View.ld x7 (Rect.unit ![8, 0] ![1, 128] inb_S15x128_S1x128_8_0)) shapeCasts_S1x128_S1x128) shapeCasts_S1x128_S1x128)) shapeCasts_S128x128_S128x128⟩,
      ⟨Rect.unit ![896, 0] ![128, 128] inb_S1920x128_S128x128_896_0,
      shapeCast S128x128 (tile (shapeCast S1x128 (shapeCast S1x128 (View.ld x7 (Rect.unit ![7, 0] ![1, 128] inb_S15x128_S1x128_7_0)) shapeCasts_S1x128_S1x128) shapeCasts_S1x128_S1x128)) shapeCasts_S128x128_S128x128⟩,
      ⟨Rect.unit ![768, 0] ![128, 128] inb_S1920x128_S128x128_768_0,
      shapeCast S128x128 (tile (shapeCast S1x128 (shapeCast S1x128 (View.ld x7 (Rect.unit ![6, 0] ![1, 128] inb_S15x128_S1x128_6_0)) shapeCasts_S1x128_S1x128) shapeCasts_S1x128_S1x128)) shapeCasts_S128x128_S128x128⟩,
      ⟨Rect.unit ![640, 0] ![128, 128] inb_S1920x128_S128x128_640_0,
      shapeCast S128x128 (tile (shapeCast S1x128 (shapeCast S1x128 (View.ld x7 (Rect.unit ![5, 0] ![1, 128] inb_S15x128_S1x128_5_0)) shapeCasts_S1x128_S1x128) shapeCasts_S1x128_S1x128)) shapeCasts_S128x128_S128x128⟩,
      ⟨Rect.unit ![512, 0] ![128, 128] inb_S1920x128_S128x128_512_0,
      shapeCast S128x128 (tile (shapeCast S1x128 (shapeCast S1x128 (View.ld x7 (Rect.unit ![4, 0] ![1, 128] inb_S15x128_S1x128_4_0)) shapeCasts_S1x128_S1x128) shapeCasts_S1x128_S1x128)) shapeCasts_S128x128_S128x128⟩,
      ⟨Rect.unit ![384, 0] ![128, 128] inb_S1920x128_S128x128_384_0,
      shapeCast S128x128 (tile (shapeCast S1x128 (shapeCast S1x128 (View.ld x7 (Rect.unit ![3, 0] ![1, 128] inb_S15x128_S1x128_3_0)) shapeCasts_S1x128_S1x128) shapeCasts_S1x128_S1x128)) shapeCasts_S128x128_S128x128⟩,
      ⟨Rect.unit ![256, 0] ![128, 128] inb_S1920x128_S128x128_256_0,
      shapeCast S128x128 (tile (shapeCast S1x128 (shapeCast S1x128 (View.ld x7 (Rect.unit ![2, 0] ![1, 128] inb_S15x128_S1x128_2_0)) shapeCasts_S1x128_S1x128) shapeCasts_S1x128_S1x128)) shapeCasts_S128x128_S128x128⟩,
      ⟨Rect.unit ![128, 0] ![128, 128] inb_S1920x128_S128x128_128_0,
      shapeCast S128x128 (tile (shapeCast S1x128 (shapeCast S1x128 (View.ld x7 (Rect.unit ![1, 0] ![1, 128] inb_S15x128_S1x128_1_0)) shapeCasts_S1x128_S1x128) shapeCasts_S1x128_S1x128)) shapeCasts_S128x128_S128x128⟩,
      ⟨Rect.unit ![0, 0] ![128, 128] inb_S1920x128_S128x128_0_0,
      shapeCast S128x128 (tile (shapeCast S1x128 (shapeCast S1x128 (View.ld x7 (Rect.unit ![0, 0] ![1, 128] inb_S15x128_S1x128_0_0)) shapeCasts_S1x128_S1x128) shapeCasts_S1x128_S1x128)) shapeCasts_S128x128_S128x128⟩] = labL x7 := by
  funext y
  refine View.canon_apply_of_pieces (labL x7) _ (View.PiecesOf.mem ?_) y (View.cover_of_tiledL _ (![128, 128]) (by sl_kernel_rfl) y)
  repeat refine ⟨tile_ok x7 _ _ (by rfl) (by decide) _ _ _ _, ?_⟩
  exact trivial

end Cert.KernelIdeal.Label

end
-- ==== Proof.Step.lean ====
/- What each grid step leaves in the kernel's scratch arrays, as functions of what it finds there and of its blocks. -/
module

public import proofs.«01_k».proof.Proof.Chunk
public import proofs.«01_k».proof.Proof.Widen
public import proofs.«01_k».proof.Proof.Label

@[expose] public section

set_option maxRecDepth 16384
set_option maxHeartbeats 1000000

noncomputable section

namespace Cert.KernelIdeal.Step

open Idealize.ShloMosaic Idealize.ShloMosaic.TcCoe Idealize.ShloMosaic.Tactic Cert.KernelIdeal.Gen Cert.KernelIdeal.Widen Cert.KernelIdeal.Chunk Cert.KernelIdeal.Label
open Idealize.SL Idealize.SL.RA Idealize.SL.BI

/-- A load after stores reads what they leave. -/
theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L r.toLoadRect

/-- A load of the whole block of head rows. -/
theorem ld_w (X : Vec Ideal S512x4096 .bf16) : View.ld X (Rect.unit ![0, 0] ![512, 4096] inb_S512x4096_S512x4096_0_0) = X :=
  View.ld_unit_zero (S := S512x4096) (by funext a; fin_cases a <;> rfl) _ X

/-- A chunk's rows are read past the stores to the chunks before it. -/
theorem ld_skip {e : EltTy} (a b : ℕ) (i1 i2) (V) (L : List (View.Piece (Elt Ideal) S1920x128 e)) (h : a + 480 ≤ b) :
    View.ld (View.canon (⟨Rect.unit (s := S1920x128) ![a, 0] ![480, 128] i1, V⟩ :: L)) (Rect.unit (s := S1920x128) ![b, 0] ![480, 128] i2)
      = View.ld (View.canon L) (Rect.unit (s := S1920x128) ![b, 0] ![480, 128] i2) := by
  funext x
  refine View.canon_cons_of_not_mem _ L ?_
  rintro hm
  obtain ⟨z, hz⟩ := LoadRect.exists_idx_of_mem _ hm
  have h0 : b + 1 * (x 0).val = a + 1 * (z 0).val := congrArg (fun q => (q 0).val) hz.symm
  have hz : (z 0).val < 480 := (z 0).isLt
  omega

/-- A whole array just filled. -/
theorem canon_fill {e : EltTy} (i1) (V : Vec Ideal S1920x128 e) :
    View.canon [(⟨Rect.unit (s := S1920x128) ![0, 0] ![1920, 128] i1, V⟩ : View.Piece (Elt Ideal) S1920x128 e)] = V :=
  View.canon_unit_zero (S := S1920x128) (by funext a; fin_cases a <;> rfl) _ V

/-- A later step updates the running maxima. -/
theorem sout_B_2 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepM xs0 (wide x5 x6) xs2 := by
  unfold sout0_B_2
  rw [View.read_writes_eq_canon _ _ _ (scover0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_B
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonM _ _ _ []

/-- A later step updates the running sums. -/
theorem sout_B_3 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepS xs0 (wide x5 x6) xs2 xs3 := by
  unfold sout0_B_3
  rw [View.read_writes_eq_canon _ _ _ (scover0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_B
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonS _ _ _ _ []

/-- A later step updates the running targets. -/
theorem sout_B_4 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepT (BitVec.ofNat 32 (i 0).val) xs0 (wide x5 x6) xs5 xs4 := by
  unfold sout0_B_4
  rw [View.read_writes_eq_canon _ _ _ (scover0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_B
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonT _ _ _ _ _ []

/-- A later step updates the running maxima. -/
theorem sout_C_2 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepM xs0 (wide x5 x6) xs2 := by
  unfold sout0_C_2
  rw [View.read_writes_eq_canon _ _ _ (scover0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonM _ _ _ []

/-- A later step updates the running sums. -/
theorem sout_C_3 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepS xs0 (wide x5 x6) xs2 xs3 := by
  unfold sout0_C_3
  rw [View.read_writes_eq_canon _ _ _ (scover0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonS _ _ _ _ []

/-- A later step updates the running targets. -/
theorem sout_C_4 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = stepT (BitVec.ofNat 32 (i 0).val) xs0 (wide x5 x6) xs5 xs4 := by
  unfold sout0_C_4
  rw [View.read_writes_eq_canon _ _ _ (scover0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, ld_w]
  exact canonT _ _ _ _ _ []

/-- The first step starts the running maxima. -/
theorem sout_A_2 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = stepM (wide x3 x4) (wide x5 x6) (broadcast S1920x128 (FloatOps.ofBits (F := Ideal) .f32 4048155338#32)) := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9)]
  unfold kernelRun0_A
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, canon_t1, ld_w, shapeCast_self, ld_skip, Nat.reduceLeDiff, Nat.reduceAdd, canon_fill]
  exact canonM _ _ _ _

/-- The first step starts the running sums. -/
theorem sout_A_3 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = stepS (wide x3 x4) (wide x5 x6) (broadcast S1920x128 (FloatOps.ofBits (F := Ideal) .f32 4048155338#32)) (broadcast S1920x128 (FloatOps.ofBits (F := Ideal) .f32 0#32)) := by
  unfold sout0_A_3
  rw [View.read_writes_eq_canon _ _ _ (scover0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9)]
  unfold kernelRun0_A
  dsimp only
  sl_unfold_words
  simp only [View.readAt_eq_ld, harg4.read_unread, harg5.read_unread, harg6.read_unread, harg7.read_unread, harg15.read_unread, harg17.read_unread, harg18.read_unread, harg19.read_unread, harg20.read_unread, readCov_ld, canon_t2, canon_t1, ld_w, shapeCast_self, ld_skip, Nat.reduceLeDiff, Nat.reduceAdd, canon_fill]
  exact canonS _ _ _ _ _

/-- The first step keeps the labels less the lane. -/
theorem sout_A_5 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) :
    sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = labL x7 := by
  unfold sout0_A_5
  rw [View.read_writes_eq_canon _ _ _ (scover0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9)]
  unfold kernelRun0_A
  dsimp only
  sl_unfold_words
  simp only [View.readAt_eq_ld, harg8.read_unread]
  exact canonL x7

/-- The first step starts the targets. -/
theorem sout_A_4 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = stepT (BitVec.ofNat 32 (i 0).val) (wide x3 x4) (wide x5 x6) (labL x7) (broadcast S1920x128 (FloatOps.ofBits (F := Ideal) .f32 0#32)) := by
  unfold sout0_A_4
  rw [View.read_writes_eq_canon _ _ _ (scover0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9)]
  unfold kernelRun0_A
  dsimp only
  sl_unfold_words
  simp only [View.readAt_eq_ld, harg8.read_unread, harg4.read_unread, harg5.read_unread, harg6.read_unread, harg7.read_unread, harg15.read_unread, harg17.read_unread, harg18.read_unread, harg19.read_unread, harg20.read_unread, readCov_ld, canon_t2, canon_t1, ld_w]
  simp only [ld_skip, Nat.reduceLeDiff, Nat.reduceAdd, canon_fill]
  rw [← canonL x7, ← shapeCast_self (broadcast S1920x128 (FloatOps.ofBits (F := Ideal) FTy.f32 0#32)) shapeCasts_S1920x128_S1920x128]
  exact canonT _ _ _ _ _ _

/-- The first step widens the activations. -/
theorem sout_A_0 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : cond0_0 i) (hc1 : ¬cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = wide x3 x4 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9)]
  unfold kernelRun0_A
  dsimp only
  sl_unfold_words
  simp only [canon_t1, harg4.read_unread, harg5.read_unread, harg6.read_unread, harg7.read_unread, harg15.read_unread, harg17.read_unread, harg18.read_unread, harg19.read_unread, harg20.read_unread]

end Cert.KernelIdeal.Step

end
-- ==== Proof.RowMax.lean ====
/- A row maximum from minus infinity, over the extended reals, is the supremum of the row. -/
module

public import Idealize.ShloMosaic.Lib.Pointwise

@[expose] public section

noncomputable section

namespace Cert.RowMax

open Idealize.ShloMosaic

/-- The word of minus infinity reads as the least extended real. -/
theorem ofBits_bot : Ideal.ofBits FTy.f32 0xFF800000#32 = ⊥ := by
  simp [Ideal.ofBits, Ideal.ieee]

/-- A fold of the maximum from the least element is a supremum. -/
theorem fold_max_bot {n : ℕ} (f : Fin n → EReal) : Finset.univ.fold max ⊥ f = Finset.univ.sup f := rfl

/-- The maximum over the second axis, at a row. -/
theorem rowMax {n m : ℕ} (x : FVec Ideal ⟨2, ![n, m]⟩ .f32) (h : Shape.Reduces ⟨2, ![n, m]⟩ [1] ⟨1, ![n]⟩) (r : Fin n) :
    multiReduction .maximumf [1] ⟨1, ![n]⟩ x 0xFF800000#32 h (.inl rfl) rfl (ix1 r) = Finset.univ.sup (fun k => x (ix2 r k)) := by
  refine (multiReduction_maximumf_eq_fold (F := Ideal) _ _ h (.inl rfl) rfl (ix1 r)).trans ?_
  have e := Shape.Reduces.fold_fiber_r2_a1 h (ix1 r) (FloatOps.maximumf (F := Ideal) (φ := .f32)) (FloatOps.ofBits .f32 0xFF800000#32) x
  refine e.trans ?_
  show Finset.univ.fold max (Ideal.ofBits FTy.f32 0xFF800000#32) (fun k => x (ix2 r k)) = _
  rw [ofBits_bot]; rfl

end Cert.RowMax

end
-- ==== Proof.Tok.lean ====
/- One row of token log probabilities, from a tile of running maxima, sums and targets. -/
module

public import proofs.«01_k».proof.Proof.Gen.KernelIdeal.Frame
public import proofs.«01_k».proof.Proof.RowMax
public import Idealize.ShloMosaic.Lib.Pointwise
public import Idealize.ShloMosaic.Lib.Pipeline.ReadBack

@[expose] public section

set_option maxRecDepth 16384

noncomputable section

namespace Cert.KernelIdeal.Tok

open Idealize.ShloMosaic Idealize.ShloMosaic.Tactic Cert.KernelIdeal.Gen

/-- A tile's maximum over its lanes, per row. -/
def tmax (M : FVec Ideal S128x128 .f32) : FVec Ideal S1x128 .f32 :=
  shapeCast S1x128 (multiReduction .maximumf [0] S128 (transpose S128x128 [1, 0] M transposes_S128x128_p1_0_S128x128) 0xFF800000#32 reduces_S128x128_S128 (.inl rfl) rfl) shapeCasts_S128_S1x128

/-- A tile's sum over its lanes, per row. -/
def tsum (T : FVec Ideal S128x128 .f32) : FVec Ideal S1x128 .f32 :=
  shapeCast S1x128 (multiReduction .add [0] S128 (transpose S128x128 [1, 0] T transposes_S128x128_p1_0_S128x128) 0x00000000#32 reduces_S128x128_S128 (.inl rfl) rfl) shapeCasts_S128_S1x128

/-- The lanes' sums over a common maximum, added up. -/
def tsc (mx : FVec Ideal S1x128 .f32) (M S : FVec Ideal S128x128 .f32) : FVec Ideal S1x128 .f32 :=
  shapeCast S1x128 (multiReduction .add [0] S128 (mulf (transpose S128x128 [1, 0] S transposes_S128x128_p1_0_S128x128)
    (exp2 (subf (transpose S128x128 [1, 0] M transposes_S128x128_p1_0_S128x128) (broadcastTo S128x128 mx broadcasts_S1x128_S128x128)))) 0x00000000#32 reduces_S128x128_S128 (.inl rfl) rfl) shapeCasts_S128_S1x128

/-- Target less the log of the sum of exponentials. -/
def tfin (mx s t : FVec Ideal S1x128 .f32) : FVec Ideal S1x128 .f32 :=
  subf t (addf (mulf mx (broadcast S1x128 (Named.named κ "ln2" 0x3F317218#32))) (log s))

/-- The row of token log probabilities. -/
def tokRow (M S T : FVec Ideal S128x128 .f32) : FVec Ideal S1x128 .f32 := tfin (tmax M) (tsc (tmax M) M S) (tsum T)

/-- A row of 128 as a one-row matrix. -/
theorem cast_apply (v : FVec Ideal S128 .f32) (p : Fin 128) : shapeCast S1x128 v shapeCasts_S128_S1x128 (ix2 0 p) = v (ix1 p) := by
  pointwise

/-- The transpose at an index. -/
theorem trans_apply (X : FVec Ideal S128x128 .f32) (p l : Fin 128) : transpose S128x128 [1, 0] X transposes_S128x128_p1_0_S128x128 (ix2 l p) = X (ix2 p l) := by
  pointwise

/-- The maximum over the first axis, at a column. -/
theorem colMax (x : FVec Ideal S128x128 .f32) (p : Fin 128) :
    multiReduction .maximumf [0] S128 x 0xFF800000#32 reduces_S128x128_S128 (.inl rfl) rfl (ix1 p) = Finset.univ.sup fun l : Fin 128 => x (ix2 l p) := by
  refine (multiReduction_maximumf_eq_fold (F := Ideal) _ _ reduces_S128x128_S128 (.inl rfl) rfl (ix1 p)).trans ?_
  refine (Shape.Reduces.fold_fiber_r2_a0 reduces_S128x128_S128 (ix1 p) (FloatOps.maximumf (F := Ideal) (φ := .f32)) (FloatOps.ofBits .f32 0xFF800000#32) x).trans ?_
  show Finset.univ.fold max (Ideal.ofBits FTy.f32 0xFF800000#32) (fun k => x (ix2 k p)) = _
  rw [Cert.RowMax.ofBits_bot]; rfl

/-- The largest partial maximum of a row. -/
theorem tmax_apply (M : FVec Ideal S128x128 .f32) (p : Fin 128) : tmax M (ix2 0 p) = Finset.univ.sup fun l : Fin 128 => M (ix2 p l) :=
  (cast_apply _ p).trans ((colMax _ p).trans (congrArg Finset.univ.sup (funext fun l => trans_apply M p l)))

/-- A row's label logit: the sum over its lanes. -/
theorem tsum_apply (T : FVec Ideal S128x128 .f32) (p : Fin 128) : tsum T (ix2 0 p) = ∑ l : Fin 128, T (ix2 p l) := by
  unfold tsum
  pointwise

/-- A row's partial sums, rescaled to the common maximum and added. -/
theorem tsc_apply (mx : FVec Ideal S1x128 .f32) (M S : FVec Ideal S128x128 .f32) (p : Fin 128) :
    tsc mx M S (ix2 0 p) = ∑ l : Fin 128, S (ix2 p l) * Ideal.exp2 (M (ix2 p l) - mx (ix2 0 p)) := by
  unfold tsc
  pointwise
  rfl

/-- Each group of rows computes such a row. -/
theorem row0 (M S T : Vec Ideal S128x128 .f32) : k0_pay330 M S T = tokRow M S T := rfl
/-- The payload of row block 1 is `tokRow`. -/
theorem row1 (M S T : Vec Ideal S128x128 .f32) : k0_pay335 (k0_pay332 M) (k0_pay333 M S) (k0_pay334 T) = tokRow M S T := rfl
/-- The payload of row block 2 is `tokRow`. -/
theorem row2 (M S T : Vec Ideal S128x128 .f32) : k0_pay336 M S T = tokRow M S T := rfl
/-- The payload of row block 3 is `tokRow`. -/
theorem row3 (M S T : Vec Ideal S128x128 .f32) : k0_pay340 (k0_pay338 M) (k0_pay339 M S) T = tokRow M S T := rfl
/-- The payload of row block 4 is `tokRow`. -/
theorem row4 (M S T : Vec Ideal S128x128 .f32) : k0_pay341 M S T = tokRow M S T := rfl
/-- The payload of row block 5 is `tokRow`. -/
theorem row5 (M S T : Vec Ideal S128x128 .f32) : k0_pay343 (k0_pay342 M) S T = tokRow M S T := rfl
/-- The payload of row block 6 is `tokRow`. -/
theorem row6 (M S T : Vec Ideal S128x128 .f32) : k0_pay346 (k0_pay344 T) (k0_pay345 M S) = tokRow M S T := rfl
/-- The payload of row block 7 is `tokRow`. -/
theorem row7 (M S T : Vec Ideal S128x128 .f32) : k0_pay347 M S T = tokRow M S T := rfl
/-- The payload of row block 8 is `tokRow`. -/
theorem row8 (M S T : Vec Ideal S128x128 .f32) : k0_pay351 (k0_pay349 M) (k0_pay350 M S) T = tokRow M S T := rfl
/-- The payload of row block 9 is `tokRow`. -/
theorem row9 (M S T : Vec Ideal S128x128 .f32) : k0_pay352 M S T = tokRow M S T := rfl
/-- The payload of row block 10 is `tokRow`. -/
theorem row10 (M S T : Vec Ideal S128x128 .f32) : k0_pay356 (k0_pay353 M) (k0_pay354 S) (k0_pay355 M) T = tokRow M S T := rfl
/-- The payload of row block 11 is `tokRow`. -/
theorem row11 (M S T : Vec Ideal S128x128 .f32) : k0_pay357 M S T = tokRow M S T := rfl
/-- The payload of row block 12 is `tokRow`. -/
theorem row12 (M S T : Vec Ideal S128x128 .f32) : k0_pay358 M S T = tokRow M S T := rfl
/-- The payload of row block 13 is `tokRow`. -/
theorem row13 (M S T : Vec Ideal S128x128 .f32) : k0_pay363 (k0_pay360 M) (k0_pay361 M S) (k0_pay362 T) = tokRow M S T := rfl
/-- The payload of row block 14 is `tokRow`. -/
theorem row14 (M S T : Vec Ideal S128x128 .f32) : k0_pay364 M S T = tokRow M S T := rfl

/-- Row `r`'s token log probability from its lanes' maxima, sums and targets. -/
def tokf (M S T : Vec Ideal S1920x128 .f32) (r : Fin 1920) : EReal :=
  (∑ l : Fin 128, T (ix2 r l)) - ((Finset.univ.sup fun l : Fin 128 => (M (ix2 r l) : EReal)) * ((Real.log 2 : ℝ) : EReal)
    + Ideal.log (∑ l : Fin 128, S (ix2 r l) * Ideal.exp2 (M (ix2 r l) - Finset.univ.sup fun l : Fin 128 => (M (ix2 r l) : EReal))))

/-- All token log probabilities, fifteen rows of 128. -/
def tokArr (M S T : Vec Ideal S1920x128 .f32) : Vec Ideal S15x128 .f32 := fun j =>
  have h0 : (j 0).val < 15 := (j 0).isLt
  have h1 : (j 1).val < 128 := (j 1).isLt
  tokf M S T ⟨128 * (j 0).val + (j 1).val, by omega⟩

/-- `tokRow` at an index. -/
theorem tokRow_apply (M S T : FVec Ideal S128x128 .f32) (p : Fin 128) : tokRow M S T (ix2 0 p) =
    (∑ l : Fin 128, T (ix2 p l)) - ((Finset.univ.sup fun l : Fin 128 => (M (ix2 p l) : EReal)) * ((Real.log 2 : ℝ) : EReal)
      + Ideal.log (∑ l : Fin 128, S (ix2 p l) * Ideal.exp2 (M (ix2 p l) - Finset.univ.sup fun l : Fin 128 => (M (ix2 p l) : EReal)))) := by
  have e : tokRow M S T (ix2 0 p) = tsum T (ix2 0 p) - (tmax M (ix2 0 p) * ((Real.log 2 : ℝ) : EReal) + Ideal.log (tsc (tmax M) M S (ix2 0 p))) := rfl
  rw [e, tsum_apply, tsc_apply, tmax_apply]

/-- A stored row lies in the array. -/
theorem row_inb {q : ℕ} (hq : q < 15) : ∀ a, (![q, 0] : Fin 2 → ℕ) a + (![1, 128] : Fin 2 → ℕ) a ≤ S15x128.size a := by
  intro a
  fin_cases a
  · show q + 1 ≤ 15; omega
  · show 0 + 128 ≤ 128; omega

/-- A loaded tile lies in the array. -/
theorem tile_inb {q R : ℕ} (hR : R = 128 * q) (hq : q < 15) :
    ∀ a, (![R, 0] : Fin 2 → ℕ) a + (![128, 128] : Fin 2 → ℕ) a ≤ S1920x128.size a := by
  intro a
  fin_cases a
  · show R + 128 ≤ 1920; omega
  · show 0 + 128 ≤ 128; omega

/-- Loading 128 rows, at an index. -/
theorem ld_tile (X : Vec Ideal S1920x128 .f32) {q R : ℕ} (hR : R = 128 * q) (hq : q < 15) (p l : Fin 128) (h : 128 * q + p.val < 1920) :
    View.ld X (Rect.unit (s := S1920x128) ![R, 0] ![128, 128] (tile_inb hR hq)) (ix2 p l) = X (ix2 ⟨128 * q + p.val, h⟩ l) := by
  subst hR
  refine congrArg X ?_
  funext b; apply Fin.ext
  fin_cases b
  · show 128 * q + 1 * p.val = 128 * q + p.val; omega
  · show 0 + 1 * l.val = l.val; omega

/-- A stored row is a block of the array of all. -/
theorem row_ok (M S T : Vec Ideal S1920x128 .f32) (q R : ℕ) (hR : R = 128 * q) (hq : q < 15) :
    ∀ x, tokRow (View.ld M (Rect.unit (s := S1920x128) ![R, 0] ![128, 128] (tile_inb hR hq)))
        (View.ld S (Rect.unit (s := S1920x128) ![R, 0] ![128, 128] (tile_inb hR hq)))
        (View.ld T (Rect.unit (s := S1920x128) ![R, 0] ![128, 128] (tile_inb hR hq))) x
      = tokArr M S T ((Rect.unit (s := S15x128) ![q, 0] ![1, 128] (row_inb hq)).emb x) := by
  intro x
  obtain ⟨p, rfl⟩ : ∃ p : Fin 128, x = ix2 0 p := ⟨x 1, by
    funext b; fin_cases b
    · exact Subsingleton.elim (α := Fin 1) _ _
    · rfl⟩
  have hp : 128 * q + p.val < 1920 := by have := p.isLt; omega
  refine (tokRow_apply _ _ _ p).trans ?_
  simp only [ld_tile M hR hq _ _ hp, ld_tile S hR hq _ _ hp, ld_tile T hR hq _ _ hp]
  have e : (⟨128 * q + p.val, hp⟩ : Fin 1920) = ⟨128 * ((Rect.unit (s := S15x128) ![q, 0] ![1, 128] (row_inb hq)).emb (ix2 0 p) 0).val
      + ((Rect.unit (s := S15x128) ![q, 0] ![1, 128] (row_inb hq)).emb (ix2 0 p) 1).val, by
        have e0 : ((Rect.unit (s := S15x128) ![q, 0] ![1, 128] (row_inb hq)).emb (ix2 0 p) 0).val = q + 1 * 0 := rfl
        have e1 : ((Rect.unit (s := S15x128) ![q, 0] ![1, 128] (row_inb hq)).emb (ix2 0 p) 1).val = 0 + 1 * p.val := rfl
        rw [e0, e1]; omega⟩ := by
    apply Fin.ext
    show 128 * q + p.val = 128 * (q + 1 * 0) + (0 + 1 * p.val)
    omega
  exact congrArg (tokf M S T) e

/-- The fifteen rows leave the array of all. -/
theorem canonTok (M S T : Vec Ideal S1920x128 .f32) :
    View.canon (Val := Elt Ideal) (s := S15x128) (e := .f32) [⟨Rect.unit ![14, 0] ![1, 128] inb_S15x128_S1x128_14_0, k0_pay364 (View.ld M (Rect.unit ![1792, 0] ![128, 128] inb_S1920x128_S128x128_1792_0)) (View.ld S (Rect.unit ![1792, 0] ![128, 128] inb_S1920x128_S128x128_1792_0)) (View.ld T (Rect.unit ![1792, 0] ![128, 128] inb_S1920x128_S128x128_1792_0))⟩,
      ⟨Rect.unit ![13, 0] ![1, 128] inb_S15x128_S1x128_13_0, k0_pay363 (k0_pay360 (View.ld M (Rect.unit ![1664, 0] ![128, 128] inb_S1920x128_S128x128_1664_0))) (k0_pay361 (View.ld M (Rect.unit ![1664, 0] ![128, 128] inb_S1920x128_S128x128_1664_0)) (View.ld S (Rect.unit ![1664, 0] ![128, 128] inb_S1920x128_S128x128_1664_0))) (k0_pay362 (View.ld T (Rect.unit ![1664, 0] ![128, 128] inb_S1920x128_S128x128_1664_0)))⟩,
      ⟨Rect.unit ![12, 0] ![1, 128] inb_S15x128_S1x128_12_0, k0_pay358 (View.ld M (Rect.unit ![1536, 0] ![128, 128] inb_S1920x128_S128x128_1536_0)) (View.ld S (Rect.unit ![1536, 0] ![128, 128] inb_S1920x128_S128x128_1536_0)) (View.ld T (Rect.unit ![1536, 0] ![128, 128] inb_S1920x128_S128x128_1536_0))⟩,
      ⟨Rect.unit ![11, 0] ![1, 128] inb_S15x128_S1x128_11_0, k0_pay357 (View.ld M (Rect.unit ![1408, 0] ![128, 128] inb_S1920x128_S128x128_1408_0)) (View.ld S (Rect.unit ![1408, 0] ![128, 128] inb_S1920x128_S128x128_1408_0)) (View.ld T (Rect.unit ![1408, 0] ![128, 128] inb_S1920x128_S128x128_1408_0))⟩,
      ⟨Rect.unit ![10, 0] ![1, 128] inb_S15x128_S1x128_10_0, k0_pay356 (k0_pay353 (View.ld M (Rect.unit ![1280, 0] ![128, 128] inb_S1920x128_S128x128_1280_0))) (k0_pay354 (View.ld S (Rect.unit ![1280, 0] ![128, 128] inb_S1920x128_S128x128_1280_0))) (k0_pay355 (View.ld M (Rect.unit ![1280, 0] ![128, 128] inb_S1920x128_S128x128_1280_0))) (View.ld T (Rect.unit ![1280, 0] ![128, 128] inb_S1920x128_S128x128_1280_0))⟩,
      ⟨Rect.unit ![9, 0] ![1, 128] inb_S15x128_S1x128_9_0, k0_pay352 (View.ld M (Rect.unit ![1152, 0] ![128, 128] inb_S1920x128_S128x128_1152_0)) (View.ld S (Rect.unit ![1152, 0] ![128, 128] inb_S1920x128_S128x128_1152_0)) (View.ld T (Rect.unit ![1152, 0] ![128, 128] inb_S1920x128_S128x128_1152_0))⟩,
      ⟨Rect.unit ![8, 0] ![1, 128] inb_S15x128_S1x128_8_0, k0_pay351 (k0_pay349 (View.ld M (Rect.unit ![1024, 0] ![128, 128] inb_S1920x128_S128x128_1024_0))) (k0_pay350 (View.ld M (Rect.unit ![1024, 0] ![128, 128] inb_S1920x128_S128x128_1024_0)) (View.ld S (Rect.unit ![1024, 0] ![128, 128] inb_S1920x128_S128x128_1024_0))) (View.ld T (Rect.unit ![1024, 0] ![128, 128] inb_S1920x128_S128x128_1024_0))⟩,
      ⟨Rect.unit ![7, 0] ![1, 128] inb_S15x128_S1x128_7_0, k0_pay347 (View.ld M (Rect.unit ![896, 0] ![128, 128] inb_S1920x128_S128x128_896_0)) (View.ld S (Rect.unit ![896, 0] ![128, 128] inb_S1920x128_S128x128_896_0)) (View.ld T (Rect.unit ![896, 0] ![128, 128] inb_S1920x128_S128x128_896_0))⟩,
      ⟨Rect.unit ![6, 0] ![1, 128] inb_S15x128_S1x128_6_0, k0_pay346 (k0_pay344 (View.ld T (Rect.unit ![768, 0] ![128, 128] inb_S1920x128_S128x128_768_0))) (k0_pay345 (View.ld M (Rect.unit ![768, 0] ![128, 128] inb_S1920x128_S128x128_768_0)) (View.ld S (Rect.unit ![768, 0] ![128, 128] inb_S1920x128_S128x128_768_0)))⟩,
      ⟨Rect.unit ![5, 0] ![1, 128] inb_S15x128_S1x128_5_0, k0_pay343 (k0_pay342 (View.ld M (Rect.unit ![640, 0] ![128, 128] inb_S1920x128_S128x128_640_0))) (View.ld S (Rect.unit ![640, 0] ![128, 128] inb_S1920x128_S128x128_640_0)) (View.ld T (Rect.unit ![640, 0] ![128, 128] inb_S1920x128_S128x128_640_0))⟩,
      ⟨Rect.unit ![4, 0] ![1, 128] inb_S15x128_S1x128_4_0, k0_pay341 (View.ld M (Rect.unit ![512, 0] ![128, 128] inb_S1920x128_S128x128_512_0)) (View.ld S (Rect.unit ![512, 0] ![128, 128] inb_S1920x128_S128x128_512_0)) (View.ld T (Rect.unit ![512, 0] ![128, 128] inb_S1920x128_S128x128_512_0))⟩,
      ⟨Rect.unit ![3, 0] ![1, 128] inb_S15x128_S1x128_3_0, k0_pay340 (k0_pay338 (View.ld M (Rect.unit ![384, 0] ![128, 128] inb_S1920x128_S128x128_384_0))) (k0_pay339 (View.ld M (Rect.unit ![384, 0] ![128, 128] inb_S1920x128_S128x128_384_0)) (View.ld S (Rect.unit ![384, 0] ![128, 128] inb_S1920x128_S128x128_384_0))) (View.ld T (Rect.unit ![384, 0] ![128, 128] inb_S1920x128_S128x128_384_0))⟩,
      ⟨Rect.unit ![2, 0] ![1, 128] inb_S15x128_S1x128_2_0, k0_pay336 (View.ld M (Rect.unit ![256, 0] ![128, 128] inb_S1920x128_S128x128_256_0)) (View.ld S (Rect.unit ![256, 0] ![128, 128] inb_S1920x128_S128x128_256_0)) (View.ld T (Rect.unit ![256, 0] ![128, 128] inb_S1920x128_S128x128_256_0))⟩,
      ⟨Rect.unit ![1, 0] ![1, 128] inb_S15x128_S1x128_1_0, k0_pay335 (k0_pay332 (View.ld M (Rect.unit ![128, 0] ![128, 128] inb_S1920x128_S128x128_128_0))) (k0_pay333 (View.ld M (Rect.unit ![128, 0] ![128, 128] inb_S1920x128_S128x128_128_0)) (View.ld S (Rect.unit ![128, 0] ![128, 128] inb_S1920x128_S128x128_128_0))) (k0_pay334 (View.ld T (Rect.unit ![128, 0] ![128, 128] inb_S1920x128_S128x128_128_0)))⟩,
      ⟨Rect.unit ![0, 0] ![1, 128] inb_S15x128_S1x128_0_0, k0_pay330 (View.ld M (Rect.unit ![0, 0] ![128, 128] inb_S1920x128_S128x128_0_0)) (View.ld S (Rect.unit ![0, 0] ![128, 128] inb_S1920x128_S128x128_0_0)) (View.ld T (Rect.unit ![0, 0] ![128, 128] inb_S1920x128_S128x128_0_0))⟩] = tokArr M S T := by
  funext y
  refine View.canon_apply_of_pieces (tokArr M S T) _ (View.PiecesOf.mem ?_) y (View.cover_of_tiledL _ (![1, 128]) (by sl_kernel_rfl) y)
  refine ⟨fun x => (congrFun (row14 _ _ _) x).trans (row_ok M S T 14 1792 (by rfl) (by decide) x), ?_⟩
  refine ⟨fun x => (congrFun (row13 _ _ _) x).trans (row_ok M S T 13 1664 (by rfl) (by decide) x), ?_⟩
  refine ⟨fun x => (congrFun (row12 _ _ _) x).trans (row_ok M S T 12 1536 (by rfl) (by decide) x), ?_⟩
  refine ⟨fun x => (congrFun (row11 _ _ _) x).trans (row_ok M S T 11 1408 (by rfl) (by decide) x), ?_⟩
  refine ⟨fun x => (congrFun (row10 _ _ _) x).trans (row_ok M S T 10 1280 (by rfl) (by decide) x), ?_⟩
  refine ⟨fun x => (congrFun (row9 _ _ _) x).trans (row_ok M S T 9 1152 (by rfl) (by decide) x), ?_⟩
  refine ⟨fun x => (congrFun (row8 _ _ _) x).trans (row_ok M S T 8 1024 (by rfl) (by decide) x), ?_⟩
  refine ⟨fun x => (congrFun (row7 _ _ _) x).trans (row_ok M S T 7 896 (by rfl) (by decide) x), ?_⟩
  refine ⟨fun x => (congrFun (row6 _ _ _) x).trans (row_ok M S T 6 768 (by rfl) (by decide) x), ?_⟩
  refine ⟨fun x => (congrFun (row5 _ _ _) x).trans (row_ok M S T 5 640 (by rfl) (by decide) x), ?_⟩
  refine ⟨fun x => (congrFun (row4 _ _ _) x).trans (row_ok M S T 4 512 (by rfl) (by decide) x), ?_⟩
  refine ⟨fun x => (congrFun (row3 _ _ _) x).trans (row_ok M S T 3 384 (by rfl) (by decide) x), ?_⟩
  refine ⟨fun x => (congrFun (row2 _ _ _) x).trans (row_ok M S T 2 256 (by rfl) (by decide) x), ?_⟩
  refine ⟨fun x => (congrFun (row1 _ _ _) x).trans (row_ok M S T 1 128 (by rfl) (by decide) x), ?_⟩
  refine ⟨fun x => (congrFun (row0 _ _ _) x).trans (row_ok M S T 0 0 (by rfl) (by decide) x), ?_⟩
  exact trivial

end Cert.KernelIdeal.Tok

end
-- ==== Proof.Fin13.lean ====
/- What each grid step leaves in the kernel's scratch arrays, as functions of what it finds there and of its blocks. -/
module

public import proofs.«01_k».proof.Proof.Step
public import proofs.«01_k».proof.Proof.Tok
public import proofs.«01_k».proof.Proof.Widen
public import proofs.«01_k».proof.Proof.Label

@[expose] public section

set_option maxRecDepth 16384
set_option maxHeartbeats 1000000

noncomputable section

namespace Cert.KernelIdeal.Fin

open Idealize.ShloMosaic Idealize.ShloMosaic.TcCoe Idealize.ShloMosaic.Tactic Cert.KernelIdeal.Gen Cert.KernelIdeal.Step Cert.KernelIdeal.Tok Cert.KernelIdeal.Widen Cert.KernelIdeal.Chunk Cert.KernelIdeal.Label
open Idealize.SL Idealize.SL.RA Idealize.SL.BI

/-- The last grid step stores every row's token log probability. -/
theorem out_13 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = tokArr (stepM xs0 (wide x5 x6) xs2) (stepS xs0 (wide x5 x6) xs2 xs3) (stepT (BitVec.ofNat 32 (i 0).val) xs0 (wide x5 x6) xs5 xs4) := by
  unfold out0_C_13
  rw [View.read_writes_eq_canon _ _ _ (cover0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg1.read_unread, harg2.read_unread, harg3.read_unread, harg8.read_unread, harg9.read_unread, harg10.read_unread, harg4.read_unread, harg5.read_unread, harg6.read_unread, harg7.read_unread, harg15.read_unread, harg17.read_unread, harg18.read_unread, harg19.read_unread, harg20.read_unread, readCov_ld, canon_t2, ld_w]
  simp only [canonM, canonS, canonT]
  exact canonTok _ _ _

end Cert.KernelIdeal.Fin
end
-- ==== Proof.Softmax.lean ====
/- The mathematics of the running log-sum-exp, over the extended reals of `Ideal` and apart from any program:
   a running maximum with its rescaled sum, four columns at a time, and what its last state is worth. -/
module

public import proofs.«01_k».proof.Defs
public import Idealize.ShloMosaic.PureOps.Ideal

@[expose] public section

noncomputable section

namespace Cert.Softmax

open Idealize.ShloMosaic

/-- `2 ^ (y - m)` is a power of two with a real exponent, or zero: it is never negative. -/
theorem exp2_nonneg (z : EReal) : 0 ≤ Ideal.exp2 z := by
  induction z using EReal.rec with
  | bot => simp
  | top => simp
  | coe r => rw [Ideal.exp2_coe]; exact EReal.coe_nonneg.mpr (Real.rpow_nonneg (by norm_num) r)

/-- Rescaling from one maximum to a larger one: `2 ^ (y - m) · 2 ^ (m - m') = 2 ^ (y - m')`, infinities included,
    as long as the first maximum is not `⊥`. -/
theorem exp2_chain {y m m' : EReal} (hy : y ≤ m) (hm : m ≤ m') (hb : m ≠ ⊥) :
    Ideal.exp2 (y - m) * Ideal.exp2 (m - m') = Ideal.exp2 (y - m') := by
  induction m' using EReal.rec with
  | bot => exact absurd (le_bot_iff.mp hm) hb
  | top => simp [EReal.sub_top]
  | coe c =>
    induction m using EReal.rec with
    | bot => exact absurd rfl hb
    | top => simp at hm
    | coe b =>
      induction y using EReal.rec with
      | bot => simp
      | top => simp at hy
      | coe a =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (b - c) = (2 : ℝ) ^ (a - c)
        rw [← Real.rpow_add (by norm_num)]; congr 1; ring

/-- A sum of terms that are not negative times anything is the sum of the products. -/
theorem sum_mul_of_nonneg {ι : Type*} (A : Finset ι) (f : ι → EReal) (hf : ∀ i, 0 ≤ f i) (c : EReal) :
    (∑ i ∈ A, f i) * c = ∑ i ∈ A, f i * c := by
  classical
  induction A using Finset.induction_on with
  | empty => simp
  | insert a A ha ih =>
    rw [Finset.sum_insert ha, Finset.sum_insert ha, EReal.right_distrib_of_nonneg (hf a) (Finset.sum_nonneg fun i _ => hf i), ih]

/-- The running maximum after `k` columns, started at the floor `B`. -/
def Mx (B : EReal) (y : ℕ → EReal) (k : ℕ) : EReal := B ⊔ (Finset.range k).sup y

/-- The running sum after `k` columns, relative to the running maximum. -/
def Sx (B : EReal) (y : ℕ → EReal) (k : ℕ) : EReal := ∑ i ∈ Finset.range k, Ideal.exp2 (y i - Mx B y k)

/-- The maximum over no columns. -/
theorem Mx_zero (B : EReal) (y : ℕ → EReal) : Mx B y 0 = B := by simp [Mx]

/-- The sum over no columns. -/
theorem Sx_zero (B : EReal) (y : ℕ → EReal) : Sx B y 0 = 0 := by simp [Sx]

/-- The maximum over one column more. -/
theorem Mx_succ (B : EReal) (y : ℕ → EReal) (k : ℕ) : Mx B y (k + 1) = max (Mx B y k) (y k) := by
  show B ⊔ (Finset.range (k + 1)).sup y = (B ⊔ (Finset.range k).sup y) ⊔ y k
  rw [Finset.range_add_one, Finset.sup_insert, sup_comm (y k), sup_assoc]

/-- Each column is at most the maximum. -/
theorem le_Mx (B : EReal) (y : ℕ → EReal) {i k : ℕ} (h : i < k) : y i ≤ Mx B y k :=
  le_sup_of_le_right (Finset.le_sup (f := y) (Finset.mem_range.mpr h))

/-- The maximum only grows. -/
theorem Mx_mono (B : EReal) (y : ℕ → EReal) {k k' : ℕ} (h : k ≤ k') : Mx B y k ≤ Mx B y k' :=
  sup_le_sup_left (Finset.sup_mono (Finset.range_mono h)) B

/-- The maximum is never minus infinity. -/
theorem Mx_ne_bot {B : EReal} (hB : B ≠ ⊥) (y : ℕ → EReal) (k : ℕ) : Mx B y k ≠ ⊥ := fun h =>
  hB (le_bot_iff.mp (h ▸ (le_sup_left : B ≤ Mx B y k)))

/-- The sum of the first `k` columns, rescaled to a later maximum. -/
theorem Sx_rescale {B : EReal} (hB : B ≠ ⊥) (y : ℕ → EReal) {k k' : ℕ} (h : k ≤ k') :
    Sx B y k * Ideal.exp2 (Mx B y k - Mx B y k') = ∑ i ∈ Finset.range k, Ideal.exp2 (y i - Mx B y k') := by
  unfold Sx
  rw [sum_mul_of_nonneg _ _ fun i => exp2_nonneg _]
  exact Finset.sum_congr rfl fun i hi => exp2_chain (le_Mx B y (Finset.mem_range.mp hi)) (Mx_mono B y h) (Mx_ne_bot hB y k)

/-- One grid step on the maximum: four more columns. -/
theorem Mx_step (B : EReal) (y : ℕ → EReal) (k : ℕ) :
    max (max (max (max (Mx B y k) (y k)) (y (k + 1))) (y (k + 2))) (y (k + 3)) = Mx B y (k + 4) := by
  rw [← Mx_succ, ← Mx_succ, ← Mx_succ, ← Mx_succ]

/-- One grid step on the sum: rescaled to the new maximum, then four more columns. -/
theorem Sx_step {B : EReal} (hB : B ≠ ⊥) (y : ℕ → EReal) (k : ℕ) :
    Sx B y k * Ideal.exp2 (Mx B y k - Mx B y (k + 4)) + Ideal.exp2 (y k - Mx B y (k + 4)) + Ideal.exp2 (y (k + 1) - Mx B y (k + 4))
      + Ideal.exp2 (y (k + 2) - Mx B y (k + 4)) + Ideal.exp2 (y (k + 3) - Mx B y (k + 4)) = Sx B y (k + 4) := by
  rw [Sx_rescale hB y (Nat.le_add_right k 4)]
  unfold Sx
  rw [Finset.sum_range_succ _ (k + 3), Finset.sum_range_succ _ (k + 2), Finset.sum_range_succ _ (k + 1), Finset.sum_range_succ _ k]

/-- The label's column among the first `k`: its value, or zero. -/
def Tx (hit : ℕ → Prop) [DecidablePred hit] (x : ℕ → EReal) (k : ℕ) : EReal := ∑ i ∈ Finset.range k, if hit i then x i else 0

/-- The label logit over no columns. -/
theorem Tx_zero (hit : ℕ → Prop) [DecidablePred hit] (x : ℕ → EReal) : Tx hit x 0 = 0 := by simp [Tx]

/-- At most one column is the label's, so overwriting is adding. -/
theorem Tx_succ (hit : ℕ → Prop) [DecidablePred hit] (x : ℕ → EReal) (k : ℕ) (hu : ∀ i, i < k → hit k → ¬hit i) :
    (if hit k then x k else Tx hit x k) = Tx hit x (k + 1) := by
  unfold Tx
  rw [Finset.sum_range_succ]
  by_cases h : hit k
  · rw [if_pos h, if_pos h, Finset.sum_eq_zero fun i hi => if_neg (hu i (Finset.mem_range.mp hi) h), zero_add]
  · rw [if_neg h, if_neg h, add_zero]

/-- The lanes put together: each lane's sum rescaled to a common maximum `mx`, added up, is the sum over every column. -/
theorem lanes_sum {B : EReal} (hB : B ≠ ⊥) {Λ : Type*} [Fintype Λ] (K : ℕ) (y : Λ → ℕ → EReal) (mx : EReal) (hmx : ∀ l, Mx B (y l) K ≤ mx) :
    ∑ l, Sx B (y l) K * Ideal.exp2 (Mx B (y l) K - mx) = ∑ l, ∑ k ∈ Finset.range K, Ideal.exp2 (y l k - mx) := by
  refine Finset.sum_congr rfl fun l _ => ?_
  unfold Sx
  rw [sum_mul_of_nonneg _ _ fun i => exp2_nonneg _]
  exact Finset.sum_congr rfl fun i hi => exp2_chain (le_Mx B (y l) (Finset.mem_range.mp hi)) (hmx l) (Mx_ne_bot hB (y l) K)

/-- A finite sum of real terms is real. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- The logarithm of the sum in base two with the floored maximum is the natural log-sum-exp:
    `mx · ln 2 + log ∑ 2 ^ (x / ln 2 - mx) = M + log ∑ e ^ (x - M)`, `M` the largest `x`, at every extended real. -/
theorem lse_eq {ι : Type*} [Fintype ι] [Nonempty ι] (b : ℝ) (x : ι → EReal) (M mx : EReal)
    (hM : M = Finset.univ.sup x)
    (hmx : mx = (b : EReal) ⊔ Finset.univ.sup fun i => x i * (((Real.log 2)⁻¹ : ℝ) : EReal)) :
    mx * ((Real.log 2 : ℝ) : EReal) + Ideal.log (∑ i, Ideal.exp2 (x i * (((Real.log 2)⁻¹ : ℝ) : EReal) - mx))
      = M + Ideal.log (∑ i, Ideal.exp (x i - M)) := by
  have hl : (0 : ℝ) < Real.log 2 := Real.log_pos (by norm_num)
  have hli : (0 : ℝ) < (Real.log 2)⁻¹ := inv_pos.mpr hl
  have hle : ∀ i, x i ≤ M := fun i => hM ▸ Finset.le_sup (Finset.mem_univ i)
  have hley : ∀ i, x i * (((Real.log 2)⁻¹ : ℝ) : EReal) ≤ mx := fun i =>
    hmx ▸ le_sup_of_le_right (Finset.le_sup (f := fun i => x i * (((Real.log 2)⁻¹ : ℝ) : EReal)) (Finset.mem_univ i))
  have hbm : (b : EReal) ≤ mx := hmx ▸ le_sup_left
  obtain ⟨i₀, -, hi₀⟩ := Finset.exists_mem_eq_sup (Finset.univ : Finset ι) Finset.univ_nonempty x
  rw [← hM] at hi₀
  have hlog : ∀ s : ℝ, 0 < s → Ideal.log (s : EReal) = (Real.log s : EReal) := fun s hs => by
    rw [Ideal.log_coe, if_neg (not_le.mpr hs)]
  have hlog0 : Ideal.log (0 : EReal) = ⊥ := by
    have := Ideal.log_coe (r := 0); rw [if_pos le_rfl] at this; exact_mod_cast this
  induction M using EReal.rec with
  | top =>
    have hmt : mx = ⊤ := top_le_iff.mp (by
      have := hley i₀; rwa [← hi₀, EReal.top_mul_coe_of_pos hli] at this)
    rw [hmt]
    simp only [EReal.sub_top, Ideal.exp2_bot, Ideal.exp_bot, Finset.sum_const_zero, hlog0, EReal.add_bot]
  | bot =>
    have hx : ∀ i, x i = ⊥ := fun i => le_bot_iff.mp (hle i)
    have hme : mx = (b : EReal) := by
      rw [hmx]; simp only [hx, EReal.bot_mul_coe_of_pos hli]; simp
    simp only [hx, EReal.bot_mul_coe_of_pos hli, hme, EReal.bot_sub, Ideal.exp2_bot, Ideal.exp_bot, Finset.sum_const_zero, hlog0, EReal.add_bot]
  | coe r =>
    have hxt : ∀ i, x i ≠ ⊤ := fun i h => by have := hle i; rw [h] at this; simp at this
    have hmr : ∃ c : ℝ, mx = (c : EReal) := by
      induction mx using EReal.rec with
      | bot => simp at hbm
      | coe c => exact ⟨c, rfl⟩
      | top =>
        exfalso
        obtain ⟨j, -, hj⟩ := Finset.exists_mem_eq_sup (Finset.univ : Finset ι) Finset.univ_nonempty fun i => x i * (((Real.log 2)⁻¹ : ℝ) : EReal)
        rw [hj] at hmx
        have hxj := hxt j
        rcases le_total (b : EReal) (x j * (((Real.log 2)⁻¹ : ℝ) : EReal)) with h | h
        · rw [sup_eq_right.mpr h] at hmx
          generalize x j = z at hmx hxj
          induction z using EReal.rec with
          | bot => rw [EReal.bot_mul_coe_of_pos hli] at hmx; simp at hmx
          | coe z => rw [← EReal.coe_mul] at hmx; exact EReal.coe_ne_top _ hmx.symm
          | top => exact hxj rfl
        · rw [sup_eq_left.mpr h] at hmx; simp at hmx
    obtain ⟨c, rfl⟩ := hmr
    -- every column as a real number: what it weighs, relative to either maximum
    have hw : ∀ i, ∃ u : ℝ, 0 ≤ u ∧ Ideal.exp (x i - (r : EReal)) = (u : EReal)
        ∧ Ideal.exp2 (x i * (((Real.log 2)⁻¹ : ℝ) : EReal) - (c : EReal)) = ((Real.exp (r - c * Real.log 2) * u : ℝ) : EReal) := fun i => by
      have hxi := hxt i
      generalize x i = z at hxi
      induction z using EReal.rec with
      | bot => exact ⟨0, le_rfl, by simp, by rw [EReal.bot_mul_coe_of_pos hli]; simp⟩
      | top => exact absurd rfl hxi
      | coe z =>
        refine ⟨Real.exp (z - r), (Real.exp_pos _).le, by rw [← EReal.coe_sub, Ideal.exp_coe], ?_⟩
        rw [← EReal.coe_mul, ← EReal.coe_sub, Ideal.exp2_coe]
        congr 1
        show (2 : ℝ) ^ (z * (Real.log 2)⁻¹ - c) = _
        rw [Real.rpow_def_of_pos (by norm_num), ← Real.exp_add]
        congr 1
        field_simp
        ring
    choose u hu0 hue hu2 using hw
    have hu1 : u i₀ = 1 := by
      have := hue i₀
      rw [← hi₀, ← EReal.coe_sub, sub_self, Ideal.exp_coe, Real.exp_zero] at this
      exact_mod_cast this.symm
    have hpos : 0 < ∑ i, u i := lt_of_lt_of_le (by rw [hu1]; norm_num) (Finset.single_le_sum (f := u) (fun i _ => hu0 i) (Finset.mem_univ i₀))
    simp only [hue, hu2, ← coe_sum, ← Finset.mul_sum]
    rw [hlog _ hpos, hlog _ (mul_pos (Real.exp_pos _) hpos), Real.log_mul (Real.exp_pos _).ne' hpos.ne', Real.log_exp,
      ← EReal.coe_mul, ← EReal.coe_add, ← EReal.coe_add]
    congr 1; ring

end Cert.Softmax

end
-- ==== Proof.Grid.lean ====
/- What the scratch arrays hold after each grid step: each row and lane's running maximum, sum and target over the
   vocabulary columns seen so far. -/
module

public import proofs.«01_k».proof.Proof.Fin13
public import proofs.«01_k».proof.Proof.Softmax

@[expose] public section

set_option maxRecDepth 16384
set_option maxHeartbeats 1000000

noncomputable section

namespace Cert.KernelIdeal.Grid

open Idealize.ShloMosaic Idealize.ShloMosaic.TcCoe Idealize.ShloMosaic.Tactic Cert.KernelIdeal.Gen Cert.KernelIdeal.Chunk Cert.KernelIdeal.Widen Cert.KernelIdeal.Label Cert.KernelIdeal.Step Cert.KernelIdeal.Tok Cert.Softmax

/-- The floor of the running maximum. -/
abbrev B : EReal := FloatOps.ofBits (F := Ideal) .f32 4048155338#32

/-- It is a real number. -/
theorem B_real : ∃ b : ℝ, B = (b : EReal) := by
  show ∃ b : ℝ, Ideal.ofBits .f32 4048155338#32 = (b : EReal)
  unfold Ideal.ofBits Ideal.ieee
  norm_num
  exact ⟨_, rfl⟩

/-- The starting maximum is not minus infinity. -/
theorem B_ne : B ≠ ⊥ := by
  obtain ⟨b, hb⟩ := B_real
  rw [hb]; exact EReal.coe_ne_bot b

section
variable (hb : Vec Ideal S1920x4096 .bf16) (wb : ℕ → Vec Ideal S512x4096 .bf16) (lab : Vec Ideal S1920x128 .i32)

/-- Column `k` of lane `l`: vocabulary entry `128 k + l`, in block `k / 4`. -/
def X (r : Fin 1920) (l : Fin 128) (k : ℕ) : EReal := lg hb (wb (k / 4)) r ⟨128 * (k % 4) + l.val, by omega⟩

/-- The same in units of the base-two exponential. -/
def Y (r : Fin 1920) (l : Fin 128) (k : ℕ) : EReal := X hb wb r l k * (((Real.log 2)⁻¹ : ℝ) : EReal)

/-- The maxima after `k` columns. -/
def MK (k : ℕ) : Vec Ideal S1920x128 .f32 := fun j => Mx B (Y hb wb (j 0) (j 1)) k
/-- The sums after `k` columns. -/
def SK (k : ℕ) : Vec Ideal S1920x128 .f32 := fun j => Sx B (Y hb wb (j 0) (j 1)) k
/-- The targets after `k` columns. -/
def TK (k : ℕ) : Vec Ideal S1920x128 .f32 := fun j => Tx (fun k => lab j = BitVec.ofNat 32 (128 * k)) (X hb wb (j 0) (j 1)) k

/-- The logits a lane meets, numbered across the steps. -/
theorem X_at (r : Fin 1920) (l : Fin 128) (n i : ℕ) (hi : i < 4) (h : 128 * i + l.val < 512) : X hb wb r l (4 * n + i) = lg hb (wb n) r ⟨128 * i + l.val, h⟩ := by
  have e1 : (4 * n + i) / 4 = n := by omega
  have e2 : (4 * n + i) % 4 = i := by omega
  unfold X
  simp only [e1, e2]

/-- One step takes the maxima over four columns more. -/
theorem stepM_MK (n : ℕ) : stepM hb (wb n) (MK hb wb (4 * n)) = MK hb wb (4 * n + 4) := by
  funext j
  have hl : (j 1).val < 128 := (j 1).isLt
  have e := Mx_step B (Y hb wb (j 0) (j 1)) (4 * n)
  have x0 := X_at hb wb (j 0) (j 1) n 0 (by omega) (by omega)
  have x1 := X_at hb wb (j 0) (j 1) n 1 (by omega) (by omega)
  have x2 := X_at hb wb (j 0) (j 1) n 2 (by omega) (by omega)
  have x3 := X_at hb wb (j 0) (j 1) n 3 (by omega) (by omega)
  simp only [Nat.mul_zero, Nat.zero_add, Nat.add_zero, Nat.mul_one] at x0 x1 x2 x3
  unfold Y at e
  rw [x0, x1, x2, x3] at e
  exact e

/-- One step takes the sums over four columns more. -/
theorem stepS_SK (n : ℕ) : stepS hb (wb n) (MK hb wb (4 * n)) (SK hb wb (4 * n)) = SK hb wb (4 * n + 4) := by
  funext j
  have hl : (j 1).val < 128 := (j 1).isLt
  have e := Sx_step B_ne (Y hb wb (j 0) (j 1)) (4 * n)
  have x0 := X_at hb wb (j 0) (j 1) n 0 (by omega) (by omega)
  have x1 := X_at hb wb (j 0) (j 1) n 1 (by omega) (by omega)
  have x2 := X_at hb wb (j 0) (j 1) n 2 (by omega) (by omega)
  have x3 := X_at hb wb (j 0) (j 1) n 3 (by omega) (by omega)
  simp only [Nat.mul_zero, Nat.zero_add, Nat.add_zero, Nat.mul_one] at x0 x1 x2 x3
  refine Eq.trans ?_ e
  have em : stepM hb (wb n) (MK hb wb (4 * n)) j = Mx B (Y hb wb (j 0) (j 1)) (4 * n + 4) := congrFun (stepM_MK hb wb n) j
  unfold stepS
  simp only [em, Y, x0, x1, x2, x3]
  rfl

/-- The column offset that the body computes. -/
theorem word (n i : ℕ) (hi : i < 4) : BitVec.ofNat 32 n * 512#32 + BitVec.ofNat 32 (128 * i) = BitVec.ofNat 32 (128 * (4 * n + i)) := by
  rw [show (512#32 : BitVec 32) = BitVec.ofNat 32 512 from rfl, ← BitVec.ofNat_mul, ← BitVec.ofNat_add]
  congr 1; omega

/-- Different column blocks have different offsets. -/
theorem word_inj {a b : ℕ} (ha : a < 256) (hb : b < 256) (h : BitVec.ofNat 32 (128 * a) = BitVec.ofNat 32 (128 * b)) : a = b := by
  have := congrArg BitVec.toNat h
  simp only [BitVec.toNat_ofNat] at this
  omega

/-- One step takes the label logits over four columns more. -/
theorem stepT_TK (n : ℕ) (hn : n < 64) : stepT (BitVec.ofNat 32 n) hb (wb n) lab (TK hb wb lab (4 * n)) = TK hb wb lab (4 * n + 4) := by
  funext j
  have hl : (j 1).val < 128 := (j 1).isLt
  have x0 := X_at hb wb (j 0) (j 1) n 0 (by omega) (by omega)
  have x1 := X_at hb wb (j 0) (j 1) n 1 (by omega) (by omega)
  have x2 := X_at hb wb (j 0) (j 1) n 2 (by omega) (by omega)
  have x3 := X_at hb wb (j 0) (j 1) n 3 (by omega) (by omega)
  have w0 := word n 0 (by omega)
  have w1 := word n 1 (by omega)
  have w2 := word n 2 (by omega)
  have w3 := word n 3 (by omega)
  simp only [Nat.mul_zero, Nat.zero_add, Nat.add_zero, Nat.mul_one] at x0 x1 x2 x3 w0 w1 w2 w3
  have T := fun k (hk : k < 256) => Tx_succ (fun k => lab j = BitVec.ofNat 32 (128 * k)) (X hb wb (j 0) (j 1)) k
    (fun i hi h h' => absurd (word_inj (by omega) hk (h'.symm.trans h)) (by omega))
  have t0 := T (4 * n) (by omega)
  have t1 := T (4 * n + 1) (by omega)
  have t2 := T (4 * n + 2) (by omega)
  have t3 := T (4 * n + 3) (by omega)
  rw [x0] at t0
  rw [← t0, x1] at t1
  rw [← t1, x2] at t2
  rw [← t2, x3] at t3
  unfold stepT
  simp only [w0, w1, w2, w3]
  exact t3
end

variable (m : (l : Loc nD τ sig) → Buf (Elt Ideal) l) (c : Dev nD)

/-- Grid step `n` (the last if `n` is past it). -/
def pt (n : ℕ) : Fin cfg0.N := ⟨min n 63, by rw [show cfg0.N = 64 from N_0]; omega⟩

/-- The activations the first step widens. -/
def HB : Vec Ideal S1920x4096 .bf16 := wide (iblk m c 3 (pt 0)) (iblk m c 4 (pt 0))
/-- The block of head rows step `n` widens. -/
def WB (n : ℕ) : Vec Ideal S512x4096 .bf16 := wide (iblk m c 5 (pt n)) (iblk m c 6 (pt n))
/-- The labels less the lane. -/
def LB : Vec Ideal S1920x128 .i32 := labL (iblk m c 7 (pt 0))

/-- A point is named by its number. -/
theorem pt_val (t : Fin cfg0.N) : pt t.val = t := by
  have h : t.val < 64 := Nat.lt_of_lt_of_eq t.isLt N_0
  apply Fin.ext; show min t.val 63 = t.val; omega

/-- A point's coordinate is its number. -/
theorem coord (t : Fin cfg0.N) : (grid0.coords t 0).val = t.val := by
  have h : t.val < 64 := Nat.lt_of_lt_of_eq t.isLt N_0
  have e0 : (grid0.coords t 0).val = t.val / 1 % 64 := Pipeline.Grid.coords_val t 0 (by decide) rfl
  omega

/-- The scratch arrays after step `n`. -/
structure Inv (n : ℕ) (h : n < cfg0.N) : Prop where
  hb : (outsAt0 m c n h).2.2.2.2.1 = HB m c
  mx : (outsAt0 m c n h).2.2.2.2.2.1 = MK (HB m c) (WB m c) (4 * n + 4)
  sx : (outsAt0 m c n h).2.2.2.2.2.2.1 = SK (HB m c) (WB m c) (4 * n + 4)
  tx : (outsAt0 m c n h).2.2.2.2.2.2.2.1 = TK (HB m c) (WB m c) (LB m c) (4 * n + 4)
  lb : (outsAt0 m c n h).2.2.2.2.2.2.2.2 = LB m c

/-- The maxima before any column. -/
theorem MK_zero (hb : Vec Ideal S1920x4096 .bf16) (wb : ℕ → Vec Ideal S512x4096 .bf16) : broadcast S1920x128 (FloatOps.ofBits (F := Ideal) .f32 4048155338#32) = MK hb wb (4 * 0) :=
  funext fun _ => (Mx_zero _ _).symm

/-- The sums before any column. -/
theorem SK_zero (hb : Vec Ideal S1920x4096 .bf16) (wb : ℕ → Vec Ideal S512x4096 .bf16) : broadcast S1920x128 (FloatOps.ofBits (F := Ideal) .f32 0#32) = SK hb wb (4 * 0) :=
  funext fun _ => (show Ideal.ofBits .f32 0#32 = 0 by simp [Ideal.ofBits, Ideal.ieee]).trans (Sx_zero _ _).symm

/-- The label logits before any column. -/
theorem TK_zero (hb : Vec Ideal S1920x4096 .bf16) (wb : ℕ → Vec Ideal S512x4096 .bf16) (lab) : broadcast S1920x128 (FloatOps.ofBits (F := Ideal) .f32 0#32) = TK hb wb lab (4 * 0) :=
  funext fun _ => (show Ideal.ofBits .f32 0#32 = 0 by simp [Ideal.ofBits, Ideal.ieee]).trans (Tx_zero _ _).symm

/-- The invariant holds after the first step. -/
theorem inv_zero (h : 0 < cfg0.N) : Inv m c 0 h := by
  have e := outsAt0_A m c ⟨0, h⟩ (Nat.zero_mod 64) (by show ¬(0 % 64 = 63); decide)
  have ec : (grid0.coords ⟨0, h⟩ 0).val = 0 := coord ⟨0, h⟩
  constructor
  · refine (congrArg (fun o => o.2.2.2.2.1) e).trans ?_
    dsimp only
    rw [sout_A_0]
    rfl
  · refine (congrArg (fun o => o.2.2.2.2.2.1) e).trans ?_
    dsimp only
    rw [sout_A_2]
    rw [MK_zero (HB m c) (WB m c)]
    exact stepM_MK (HB m c) (WB m c) 0
  · refine (congrArg (fun o => o.2.2.2.2.2.2.1) e).trans ?_
    dsimp only
    rw [sout_A_3]
    rw [MK_zero (HB m c) (WB m c), SK_zero (HB m c) (WB m c)]
    exact stepS_SK (HB m c) (WB m c) 0
  · refine (congrArg (fun o => o.2.2.2.2.2.2.2.1) e).trans ?_
    dsimp only
    rw [sout_A_4]
    rw [TK_zero (HB m c) (WB m c) (LB m c), ec]
    exact stepT_TK (HB m c) (WB m c) (LB m c) 0 (by decide)
  · refine (congrArg (fun o => o.2.2.2.2.2.2.2.2) e).trans ?_
    dsimp only
    rw [sout_A_5]
    rfl

/-- The invariant passes from a step to the next. -/
theorem inv_succ (n : ℕ) (h : n + 1 < cfg0.N) (I : Inv m c n (Nat.lt_of_succ_lt h)) : Inv m c (n + 1) h := by
  have hN : n + 1 < 64 := Nat.lt_of_lt_of_eq h N_0
  have ec : (grid0.coords ⟨n + 1, h⟩ 0).val = n + 1 := coord ⟨n + 1, h⟩
  have p : pt (n + 1) = (⟨n + 1, h⟩ : Fin cfg0.N) := pt_val ⟨n + 1, h⟩
  have h0 : ¬(⟨n + 1, h⟩ : Fin cfg0.N).val % 64 = 0 := by dsimp only; omega
  have w : wide (iblk m c 5 ⟨n + 1, h⟩) (iblk m c 6 ⟨n + 1, h⟩) = WB m c (n + 1) := by unfold WB; rw [p]
  obtain ⟨i0, i2, i3, i4, i5⟩ := I
  by_cases h1 : (⟨n + 1, h⟩ : Fin cfg0.N).val % 64 = 63
  · have e := outsAt0_C m c ⟨n + 1, h⟩ h0 h1
    constructor
    · exact (congrArg (fun o => o.2.2.2.2.1) e).trans i0
    · refine (congrArg (fun o => o.2.2.2.2.2.1) e).trans ?_
      dsimp only
      rw [sout_C_2]
      refine Eq.trans ?_ (stepM_MK (HB m c) (WB m c) (n + 1))
      exact congr (congr (congrArg stepM i0) w) i2
    · refine (congrArg (fun o => o.2.2.2.2.2.2.1) e).trans ?_
      dsimp only
      rw [sout_C_3]
      refine Eq.trans ?_ (stepS_SK (HB m c) (WB m c) (n + 1))
      exact congr (congr (congr (congrArg stepS i0) w) i2) i3
    · refine (congrArg (fun o => o.2.2.2.2.2.2.2.1) e).trans ?_
      dsimp only
      rw [sout_C_4]
      refine Eq.trans ?_ (stepT_TK (HB m c) (WB m c) (LB m c) (n + 1) hN)
      exact congr (congr (congr (congr (congrArg stepT (congrArg (BitVec.ofNat 32) ec)) i0) w) i5) i4
    · exact (congrArg (fun o => o.2.2.2.2.2.2.2.2) e).trans i5
  · have e := outsAt0_B m c ⟨n + 1, h⟩ h0 h1
    constructor
    · exact (congrArg (fun o => o.2.2.2.2.1) e).trans i0
    · refine (congrArg (fun o => o.2.2.2.2.2.1) e).trans ?_
      dsimp only
      rw [sout_B_2]
      refine Eq.trans ?_ (stepM_MK (HB m c) (WB m c) (n + 1))
      exact congr (congr (congrArg stepM i0) w) i2
    · refine (congrArg (fun o => o.2.2.2.2.2.2.1) e).trans ?_
      dsimp only
      rw [sout_B_3]
      refine Eq.trans ?_ (stepS_SK (HB m c) (WB m c) (n + 1))
      exact congr (congr (congr (congrArg stepS i0) w) i2) i3
    · refine (congrArg (fun o => o.2.2.2.2.2.2.2.1) e).trans ?_
      dsimp only
      rw [sout_B_4]
      refine Eq.trans ?_ (stepT_TK (HB m c) (WB m c) (LB m c) (n + 1) hN)
      exact congr (congr (congr (congr (congrArg stepT (congrArg (BitVec.ofNat 32) ec)) i0) w) i5) i4
    · exact (congrArg (fun o => o.2.2.2.2.2.2.2.2) e).trans i5

/-- After every step the scratch arrays hold the columns seen so far. -/
theorem inv : ∀ (n : ℕ) (h : n < cfg0.N), Inv m c n h
  | 0, h => inv_zero m c h
  | n + 1, h => inv_succ m c n h (inv n (Nat.lt_of_succ_lt h))

end Cert.KernelIdeal.Grid

end
-- ==== Proof.Vocab.lean ====
/- The lanes' columns put together are the vocabulary: the kernel's maxima, sums and targets after every column give a
   token's log probability. -/
module

public import proofs.«01_k».proof.Proof.Softmax
public import proofs.«01_k».proof.Proof.Spec

@[expose] public section

noncomputable section

namespace Cert.Vocab

open Idealize.ShloMosaic Cert.Softmax

/-- Lane `l` and column `k` as vocabulary entry `128 k + l`. -/
def entry : Fin 128 × Fin 256 ≃ Fin 32768 where
  toFun p := ⟨128 * p.2.val + p.1.val, by have := p.1.isLt; have := p.2.isLt; omega⟩
  invFun v := (⟨v.val % 128, by omega⟩, ⟨v.val / 128, by have := v.isLt; omega⟩)
  left_inv p := by
    have := p.1.isLt
    refine Prod.ext (Fin.ext ?_) (Fin.ext ?_)
    · show (128 * p.2.val + p.1.val) % 128 = p.1.val; omega
    · show (128 * p.2.val + p.1.val) / 128 = p.2.val; omega
  right_inv v := by
    apply Fin.ext
    show 128 * (v.val / 128) + v.val % 128 = v.val; omega

/-- A sum over lanes and columns is a sum over the vocabulary. -/
theorem sum_entry (g : Fin 128 → ℕ → EReal) (f : Fin 32768 → EReal) (h : ∀ (l : Fin 128) (k : Fin 256), g l k.val = f (entry (l, k))) :
    ∑ l, ∑ k ∈ Finset.range 256, g l k = ∑ v, f v := by
  rw [← Equiv.sum_comp entry f, Fintype.sum_prod_type]
  refine Finset.sum_congr rfl fun l _ => ?_
  rw [Finset.sum_range]
  exact Finset.sum_congr rfl fun k _ => h l k

/-- The largest of the lanes' maxima is the largest over the vocabulary, or the floor. -/
theorem sup_entry (b : EReal) (g : Fin 128 → ℕ → EReal) (f : Fin 32768 → EReal) (h : ∀ (l : Fin 128) (k : Fin 256), g l k.val = f (entry (l, k))) :
    (Finset.univ.sup fun l => Mx b (g l) 256) = b ⊔ Finset.univ.sup f := by
  apply le_antisymm
  · refine Finset.sup_le fun l _ => sup_le le_sup_left (Finset.sup_le fun k hk => le_sup_of_le_right ?_)
    have hk' : k < 256 := Finset.mem_range.mp hk
    exact (h l ⟨k, hk'⟩).le.trans (Finset.le_sup (Finset.mem_univ _))
  · refine sup_le (le_trans (le_sup_left : b ≤ Mx b (g 0) 256) (Finset.le_sup (f := fun l => Mx b (g l) 256) (Finset.mem_univ 0))) (Finset.sup_le fun v _ => ?_)
    obtain ⟨⟨l, k⟩, rfl⟩ := entry.surjective v
    rw [← h l k]
    exact (le_Mx b (g l) k.isLt).trans (Finset.le_sup (f := fun l => Mx b (g l) 256) (Finset.mem_univ l))

/-- The label less the lane is a column's first entry exactly when the label is the column's entry at that lane. -/
theorem hit_iff (w : BitVec 32) (l k : ℕ) : w - BitVec.ofNat 32 l = BitVec.ofNat 32 (128 * k) ↔ BitVec.ofNat 32 (128 * k + l) = w := by
  rw [BitVec.ofNat_add]
  constructor
  · intro h; rw [← h, BitVec.sub_add_cancel]
  · intro h; rw [← h, BitVec.add_sub_cancel]

/-- The kernel's three accumulators after the last column give the token's log probability. -/
theorem tokv_eq (x : Fin 32768 → EReal) (w : BitVec 32) (X : Fin 128 → ℕ → EReal) (hX : ∀ (l : Fin 128) (k : Fin 256), X l k.val = x (entry (l, k)))
    (B : EReal) (hB : ∃ b : ℝ, B = (b : EReal)) (Y : Fin 128 → ℕ → EReal) (hY : ∀ l k, Y l k = X l k * (((Real.log 2)⁻¹ : ℝ) : EReal)) :
    (∑ l : Fin 128, Tx (fun k => w - BitVec.ofNat 32 l.val = BitVec.ofNat 32 (128 * k)) (X l) 256)
      - ((Finset.univ.sup fun l : Fin 128 => Mx B (Y l) 256) * ((Real.log 2 : ℝ) : EReal)
        + Ideal.log (∑ l : Fin 128, Sx B (Y l) 256 * Ideal.exp2 (Mx B (Y l) 256 - Finset.univ.sup fun l : Fin 128 => Mx B (Y l) 256)))
      = Cert.Spec.tokv x w := by
  obtain ⟨b, rfl⟩ := hB
  have hy : ∀ (l : Fin 128) (k : Fin 256), Y l k.val = (fun v => x v * (((Real.log 2)⁻¹ : ℝ) : EReal)) (entry (l, k)) := fun l k => by
    rw [hY, hX]
  have hs := sup_entry (b : EReal) Y (fun v => x v * (((Real.log 2)⁻¹ : ℝ) : EReal)) hy
  rw [lanes_sum (EReal.coe_ne_bot b) 256 Y _ fun l => Finset.le_sup (f := fun l => Mx (b : EReal) (Y l) 256) (Finset.mem_univ l), hs]
  rw [sum_entry (fun l k => Ideal.exp2 (Y l k - ((b : EReal) ⊔ Finset.univ.sup fun v => x v * (((Real.log 2)⁻¹ : ℝ) : EReal))))
    (fun v => Ideal.exp2 (x v * (((Real.log 2)⁻¹ : ℝ) : EReal) - ((b : EReal) ⊔ Finset.univ.sup fun v => x v * (((Real.log 2)⁻¹ : ℝ) : EReal))))
    fun l k => by rw [hy l k]]
  rw [lse_eq b x _ _ rfl rfl]
  have ht := sum_entry (fun l k => if w - BitVec.ofNat 32 l.val = BitVec.ofNat 32 (128 * k) then X l k else 0)
    (fun v => if BitVec.ofNat 32 v.val = w then x v else 0) fun l k => by
      rw [hX l k]
      exact if_congr (hit_iff w l.val k.val) rfl rfl
  unfold Cert.Spec.tokv Tx
  rw [ht]

end Cert.Vocab

end
-- ==== Proof.Blocks.lean ====
/- The kernel's input blocks as parts of the arguments. -/
module

public import proofs.«01_k».proof.Proof.Grid
public import proofs.«01_k».proof.Proof.Vocab
public import Idealize.ShloMosaic.Lib.Pipeline.Value
public import Idealize.ShloMosaic.Lib.StableHlo.Run

@[expose] public section

set_option maxRecDepth 16384
set_option maxHeartbeats 1000000

noncomputable section

namespace Cert.KernelIdeal.Blocks

open Idealize.ShloMosaic Idealize.ShloMosaic.TcCoe Idealize.ShloMosaic.Tactic Cert.KernelIdeal.Gen Cert.KernelIdeal.Grid

variable (m : (l : Loc nD τ sig) → Buf (Elt Ideal) l) (c : Dev nD)

/-- The arrays the host reshapes before the launch. -/
theorem V_v0 : V m c main_v0 = shapeCast S1920x4096 (m ((c : Thread nD τ).loc main_arg0)) shapeCasts_S3x640x4096_S1920x4096 := by
  unfold V V0 hostOps0
  simp only [List.flatten_cons, List.flatten_nil, List.append_nil]
  after_results
  rfl
/-- The activation scales, as the grid finds them: the argument with its token axes joined. -/
theorem V_v1 : V m c main_v1 = shapeCast S1920x128 (m ((c : Thread nD τ).loc main_arg1)) shapeCasts_S3x640x128_S1920x128 := by
  unfold V V0 hostOps0
  simp only [List.flatten_cons, List.flatten_nil, List.append_nil]
  after_results
  rfl
/-- The labels, in rows of 128. -/
theorem V_v2 : V m c main_v2 = shapeCast S15x128 (m ((c : Thread nD τ).loc main_arg4)) shapeCasts_S3x640_S15x128 := by
  unfold V V0 hostOps0
  simp only [List.flatten_cons, List.flatten_nil, List.append_nil]
  after_results
  rfl
/-- The mask, in rows of 128. -/
theorem V_v3 : V m c main_v3 = shapeCast S15x128 (m ((c : Thread nD τ).loc main_arg6)) shapeCasts_S3x640_S15x128 := by
  unfold V V0 hostOps0
  simp only [List.flatten_cons, List.flatten_nil, List.append_nil]
  after_results
  rfl
/-- The segment ids, in rows of 128. -/
theorem V_v4 : V m c main_v4 = shapeCast S15x128 (m ((c : Thread nD τ).loc main_arg5)) shapeCasts_S3x640_S15x128 := by
  unfold V V0 hostOps0
  simp only [List.flatten_cons, List.flatten_nil, List.append_nil]
  after_results
  rfl

/-- Joining batch and position, at an index: 4096 features. -/
theorem cast4096 {α : Type} (x : S3x640x4096.Idx → α) (r : Fin 1920) (k : Fin 4096) :
    shapeCast S1920x4096 x shapeCasts_S3x640x4096_S1920x4096 (ix2 r k) = x (ix3 (Cert.Spec.hi r) (Cert.Spec.lo r) k) := by
  pointwise
  rfl
/-- Joining batch and position, at an index: 128 scale blocks. -/
theorem cast128 {α : Type} (x : S3x640x128.Idx → α) (r : Fin 1920) (k : Fin 128) :
    shapeCast S1920x128 x shapeCasts_S3x640x128_S1920x128 (ix2 r k) = x (ix3 (Cert.Spec.hi r) (Cert.Spec.lo r) k) := by
  pointwise
  rfl

/-- Window 3 shows the whole array of codes at every point. -/
theorem iblk3 (t : Fin cfg0.N) : iblk m c 3 t = V m c main_v0 := by
  funext x
  refine congrArg (V m c main_v0) ?_
  funext a; apply Fin.ext
  fin_cases a
  · show 0 * 1920 + 1 * (x 0).val = (x 0).val; omega
  · show 0 * 4096 + 1 * (x 1).val = (x 1).val; omega
/-- Window 4 shows the whole array of scales. -/
theorem iblk4 (t : Fin cfg0.N) : iblk m c 4 t = V m c main_v1 := by
  funext x
  refine congrArg (V m c main_v1) ?_
  funext a; apply Fin.ext
  fin_cases a
  · show 0 * 1920 + 1 * (x 0).val = (x 0).val; omega
  · show 0 * 128 + 1 * (x 1).val = (x 1).val; omega
/-- Window 7 shows all labels. -/
theorem iblk7 (t : Fin cfg0.N) : iblk m c 7 t = V m c main_v2 := by
  funext x
  refine congrArg (V m c main_v2) ?_
  funext a; apply Fin.ext
  fin_cases a
  · show 0 * 15 + 1 * (x 0).val = (x 0).val; omega
  · show 0 * 128 + 1 * (x 1).val = (x 1).val; omega
/-- Window 8 shows the whole mask. -/
theorem iblk8 (t : Fin cfg0.N) : iblk m c 8 t = V m c main_v3 := by
  funext x
  refine congrArg (V m c main_v3) ?_
  funext a; apply Fin.ext
  fin_cases a
  · show 0 * 15 + 1 * (x 0).val = (x 0).val; omega
  · show 0 * 128 + 1 * (x 1).val = (x 1).val; omega
/-- Window 9 shows all segment ids. -/
theorem iblk9 (t : Fin cfg0.N) : iblk m c 9 t = V m c main_v4 := by
  funext x
  refine congrArg (V m c main_v4) ?_
  funext a; apply Fin.ext
  fin_cases a
  · show 0 * 15 + 1 * (x 0).val = (x 0).val; omega
  · show 0 * 128 + 1 * (x 1).val = (x 1).val; omega
/-- Window 0 shows the reference log probabilities. -/
theorem iblk0 (t : Fin cfg0.N) : iblk m c 0 t = V m c main_arg7 := by
  funext x
  refine congrArg (V m c main_arg7) ?_
  funext a; apply Fin.ext
  fin_cases a
  show 0 * 12 + 1 * (x 0).val = (x 0).val; omega
/-- Window 1 shows the chosen sequences. -/
theorem iblk1 (t : Fin cfg0.N) : iblk m c 1 t = V m c main_arg8 := by
  funext x
  refine congrArg (V m c main_arg8) ?_
  funext a; apply Fin.ext
  fin_cases a
  show 0 * 6 + 1 * (x 0).val = (x 0).val; omega
/-- Window 2 shows the rejected sequences. -/
theorem iblk2 (t : Fin cfg0.N) : iblk m c 2 t = V m c main_arg9 := by
  funext x
  refine congrArg (V m c main_arg9) ?_
  funext a; apply Fin.ext
  fin_cases a
  show 0 * 6 + 1 * (x 0).val = (x 0).val; omega

/-- Step `n`'s block of head codes: rows `512 n …`. -/
theorem iblk5 (n : ℕ) (hn : n < 64) (p : Fin 512) (k : Fin 4096) :
    iblk m c 5 (pt n) (ix2 p k) = V m c main_arg2 (ix2 ⟨512 * n + p.val, by omega⟩ k) := by
  refine congrArg (V m c main_arg2) ?_
  have e0 : (grid0.coords (pt n) 0).val = n := (coord (pt n)).trans (by show min n 63 = n; omega)
  funext a; apply Fin.ext
  fin_cases a
  · show (BitVec.ofNat 32 (grid0.coords (pt n) 0).val).toNat * 512 + 1 * p.val = 512 * n + p.val
    rw [e0, BitVec.toNat_ofNat]; omega
  · show 0 * 4096 + 1 * k.val = k.val; omega
/-- Step `n`'s block of head scales. -/
theorem iblk6 (n : ℕ) (hn : n < 64) (p : Fin 512) (k : Fin 128) :
    iblk m c 6 (pt n) (ix2 p k) = V m c main_arg3 (ix2 ⟨512 * n + p.val, by omega⟩ k) := by
  refine congrArg (V m c main_arg3) ?_
  have e0 : (grid0.coords (pt n) 0).val = n := (coord (pt n)).trans (by show min n 63 = n; omega)
  funext a; apply Fin.ext
  fin_cases a
  · show (BitVec.ofNat 32 (grid0.coords (pt n) 0).val).toNat * 512 + 1 * p.val = 512 * n + p.val
    rw [e0, BitVec.toNat_ofNat]; omega
  · show 0 * 128 + 1 * k.val = k.val; omega

end Cert.KernelIdeal.Blocks

end
-- ==== Proof.TokVal.lean ====
/- The token log probabilities the last grid step stores, as a function of the arguments. -/
module

public import proofs.«01_k».proof.Proof.Blocks

@[expose] public section

set_option maxRecDepth 16384
set_option maxHeartbeats 1000000

noncomputable section

namespace Cert.KernelIdeal.TokVal

open Idealize.ShloMosaic Idealize.ShloMosaic.TcCoe Idealize.ShloMosaic.Tactic Cert.KernelIdeal.Gen Cert.KernelIdeal.Grid Cert.KernelIdeal.Blocks Cert.KernelIdeal.Tok Cert.KernelIdeal.Chunk Cert.KernelIdeal.Widen Cert.KernelIdeal.Label Cert.Spec

variable (m : (l : Loc nD τ sig) → Buf (Elt Ideal) l) (c : Dev nD)

/-- The arguments. -/
abbrev a0 : Vec Ideal S3x640x4096 .fp8e4m3 := m ((c : Thread nD τ).loc main_arg0)
/-- Argument 1. -/
abbrev a1 : Vec Ideal S3x640x128 .f32 := m ((c : Thread nD τ).loc main_arg1)
/-- Argument 2. -/
abbrev a2 : Vec Ideal S32768x4096 .fp8e4m3 := m ((c : Thread nD τ).loc main_arg2)
/-- Argument 3. -/
abbrev a3 : Vec Ideal S32768x128 .f32 := m ((c : Thread nD τ).loc main_arg3)
/-- Argument 4. -/
abbrev a4 : Vec Ideal S3x640 .i32 := m ((c : Thread nD τ).loc main_arg4)
/-- Argument 5. -/
abbrev a5 : Vec Ideal S3x640 .i32 := m ((c : Thread nD τ).loc main_arg5)
/-- Argument 6. -/
abbrev a6 : Vec Ideal S3x640 .i32 := m ((c : Thread nD τ).loc main_arg6)
/-- Argument 7. -/
abbrev a7 : Vec Ideal S12 .f32 := m ((c : Thread nD τ).loc main_arg7)
/-- Argument 8. -/
abbrev a8 : Vec Ideal S6 .i32 := m ((c : Thread nD τ).loc main_arg8)
/-- Argument 9. -/
abbrev a9 : Vec Ideal S6 .i32 := m ((c : Thread nD τ).loc main_arg9)

/-- A widened operand at an index: code times the scale of its block. -/
theorem wide_apply {N : ℕ} (codes : FVec Ideal ⟨2, ![N, 4096]⟩ .fp8e4m3) (sc : FVec Ideal ⟨2, ![N, 128]⟩ .f32) (r : Fin N) (k : Fin 4096) :
    wide codes sc (ix2 r k) = codes (ix2 r k) * sc (ix2 r (blk k)) := rfl

/-- The widened activations. -/
theorem HB_apply (r : Fin 1920) (k : Fin 4096) : HB m c (ix2 r k) = H (a0 m c) (a1 m c) r k := by
  unfold HB
  refine (wide_apply _ _ r k).trans ?_
  rw [iblk3, iblk4, V_v0, V_v1]
  exact congrArg₂ (fun a b : EReal => a * b) (cast4096 _ r k) (cast128 _ r (blk k))

/-- The widened head rows of step `n`. -/
theorem WB_apply (n : ℕ) (hn : n < 64) (p : Fin 512) (k : Fin 4096) : WB m c n (ix2 p k) = W (a2 m c) (a3 m c) ⟨512 * n + p.val, by omega⟩ k := by
  unfold WB
  refine (wide_apply _ _ p k).trans ?_
  have e2 : V m c main_arg2 = a2 m c := V_main_arg2 m c
  have e3 : V m c main_arg3 = a3 m c := V_main_arg3 m c
  rw [iblk5 m c n hn, iblk6 m c n hn, e2, e3]
  rfl

/-- A lane's column holds the logits of its vocabulary entries. -/
theorem X_logit (r : Fin 1920) (l : Fin 128) (k : Fin 256) :
    X (HB m c) (WB m c) r l k.val = logit (a0 m c) (a1 m c) (a2 m c) (a3 m c) r (Cert.Vocab.entry (l, k)) := by
  have hk := k.isLt
  unfold X lg logit
  refine Finset.sum_congr rfl fun i _ => ?_
  rw [HB_apply, WB_apply m c (k.val / 4) (by omega)]
  refine congrArg (fun v => H (a0 m c) (a1 m c) r i * W (a2 m c) (a3 m c) v i) (Fin.ext ?_)
  show 512 * (k.val / 4) + (128 * (k.val % 4) + l.val) = 128 * k.val + l.val
  omega

/-- A reshaped array of token words, by its flat row. -/
theorem cast15 {α : Type} (x : S3x640.Idx → α) (q : Fin 15) (p : Fin 128) (r : Fin 1920) (hr : r.val = 128 * q.val + p.val) :
    shapeCast S15x128 x shapeCasts_S3x640_S15x128 (ix2 q p) = x (ix2 (hi r) (lo r)) := by
  refine shapeCast_apply x _ _ _ ?_
  rw [Shape.rowMajor_val_two, Shape.rowMajor_val_two]
  show (r.val / 640) * 640 + r.val % 640 = q.val * 128 + p.val
  omega

/-- The log probability of row `r`'s label. -/
def tokA (r : Fin 1920) : EReal := tokv (logit (a0 m c) (a1 m c) (a2 m c) (a3 m c) r) (a4 m c (ix2 (hi r) (lo r)))

/-- The stored labels: label less lane. -/
theorem LB_apply (r : Fin 1920) (l : Fin 128) : LB m c (ix2 r l) = a4 m c (ix2 (hi r) (lo r)) - BitVec.ofNat 32 l.val := by
  unfold LB
  rw [iblk7, V_v2]
  refine congrArg (fun w : BitVec 32 => w - BitVec.ofNat 32 l.val) ?_
  refine cast15 _ _ _ r ?_
  show r.val = 128 * (r.val / 128) + r.val % 128
  omega

/-- The accumulators after the last column give each row's log probability. -/
theorem tokf_eq (r : Fin 1920) : tokf (MK (HB m c) (WB m c) 256) (SK (HB m c) (WB m c) 256) (TK (HB m c) (WB m c) (LB m c) 256) r = tokA m c r := by
  have h := Cert.Vocab.tokv_eq (logit (a0 m c) (a1 m c) (a2 m c) (a3 m c) r) (a4 m c (ix2 (hi r) (lo r))) (X (HB m c) (WB m c) r)
    (X_logit m c r) B B_real (Y (HB m c) (WB m c) r) (fun _ _ => rfl)
  unfold tokA
  rw [← h]
  unfold tokf
  refine congrArg (fun a : EReal => a - _) (Finset.sum_congr rfl fun l _ => ?_)
  show Cert.Softmax.Tx (fun k => LB m c (ix2 r l) = BitVec.ofNat 32 (128 * k)) (X (HB m c) (WB m c) r l) 256 = _
  simp only [LB_apply]

/-- All rows' log probabilities, fifteen rows of 128. -/
def tokB : Vec Ideal S15x128 .f32 := fun j =>
  have h0 : (j 0).val < 15 := (j 0).isLt
  have h1 : (j 1).val < 128 := (j 1).isLt
  tokA m c ⟨128 * (j 0).val + (j 1).val, by omega⟩

/-- The token log probabilities after all columns. -/
theorem tokArr_eq : tokArr (MK (HB m c) (WB m c) 256) (SK (HB m c) (WB m c) 256) (TK (HB m c) (WB m c) (LB m c) 256) = tokB m c :=
  funext fun _ => tokf_eq m c _

/-- The last grid step. -/
abbrev last : Fin cfg0.N := ⟨63, by rw [show cfg0.N = 64 from N_0]; decide⟩

/-- The tokens' log probabilities from what the last step finds in the scratch arrays. -/
theorem tok_last (n : ℕ) (h : n < cfg0.N) (hn : n = 62) :
    tokArr (stepM (outsAt0 m c n h).2.2.2.2.1 (wide (iblk m c 5 last) (iblk m c 6 last)) (outsAt0 m c n h).2.2.2.2.2.1)
      (stepS (outsAt0 m c n h).2.2.2.2.1 (wide (iblk m c 5 last) (iblk m c 6 last)) (outsAt0 m c n h).2.2.2.2.2.1 (outsAt0 m c n h).2.2.2.2.2.2.1)
      (stepT (BitVec.ofNat 32 (grid0.coords last 0).val) (outsAt0 m c n h).2.2.2.2.1 (wide (iblk m c 5 last) (iblk m c 6 last)) (outsAt0 m c n h).2.2.2.2.2.2.2.2 (outsAt0 m c n h).2.2.2.2.2.2.2.1)
      = tokB m c := by
  obtain ⟨i0, i2, i3, i4, i5⟩ := inv m c n h
  have w : wide (iblk m c 5 last) (iblk m c 6 last) = WB m c 63 := rfl
  have ec : (grid0.coords last 0).val = 63 := coord last
  rw [i0, i2, i3, i4, i5, w, ec, ← tokArr_eq, hn]
  exact congr (congr (congrArg tokArr (stepM_MK (HB m c) (WB m c) 63)) (stepS_SK (HB m c) (WB m c) 63)) (stepT_TK (HB m c) (WB m c) (LB m c) 63 (by decide))

/-- What the last step stores in the array of token log probabilities. -/
theorem out13 : (outsAt0 m c last.val last.isLt).2.2.2.1 = tokB m c := by
  have e := outsAt0_C m c last (by show ¬(63 % 64 = 0); decide) (by rfl)
  refine (congrArg (fun o => o.2.2.2.1) e).trans ?_
  dsimp only
  rw [Cert.KernelIdeal.Fin.out_13]
  exact tok_last m c _ _ rfl

end Cert.KernelIdeal.TokVal

end
-- ==== Proof.Pair.lean ====
/- The sequences' masked sums, the pairs' margins and the losses, from the rows of token log probabilities. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.Pair

open Idealize.ShloMosaic Idealize.ShloMosaic.Tactic Cert.KernelIdeal.Gen

/-- The lane numbers. -/
abbrev I : IVec S1x128 32 := iota .tc S1x128 32 [1] iota_S1x128_d1_w32

/-- Zero. -/
abbrev z : Ideal .f32 := Scalar.ofBits .f32 0x00000000#32

/-- The rows of sequence `q`, the others set to zero. -/
def only (P : FVec Ideal S15x128 .f32) (G : IVec S15x128 32) (q : BitVec 32) : FVec Ideal S15x128 .f32 :=
  select (cmpi .eq G (broadcast S15x128 q)) P (broadcast S15x128 z)

/-- The sum over the fifteen rows. -/
def down (P : FVec Ideal S15x128 .f32) : FVec Ideal S1x128 .f32 :=
  shapeCast S1x128 (multiReduction .add [0] S128 P 0x00000000#32 reduces_S15x128_S128 (.inl rfl) rfl) shapeCasts_S128_S1x128

/-- The sum over the lanes. -/
def across (R : FVec Ideal S1x128 .f32) : FVec Ideal S1x1 .f32 :=
  shapeCast S1x1 (multiReduction .add [1] S1 R 0x00000000#32 reduces_S1x128_S1 (.inl rfl) rfl) shapeCasts_S1_S1x1

/-- A row with lane `q` overwritten by one number. -/
def put (q : BitVec 32) (x : FVec Ideal S1x1 .f32) (acc : FVec Ideal S1x128 .f32) : FVec Ideal S1x128 .f32 :=
  select (cmpi .eq I (broadcast S1x128 q)) (broadcastTo S1x128 (shapeCast S1x1 x shapeCasts_S1x1_S1x1) broadcasts_S1x1_S1x128) acc

/-- The row of the first `n` sequences' sums. -/
def polAcc (P : FVec Ideal S15x128 .f32) (G : IVec S15x128 32) : ℕ → FVec Ideal S1x128 .f32
  | 0 => broadcast S1x128 z
  | n + 1 => put (BitVec.ofNat 32 n) (across (down (only P G (BitVec.ofNat 32 n)))) (polAcc P G n)

/-- The row of the first `n` of the numbers `f`. -/
def refAcc (f : ℕ → Ideal .f32) : ℕ → FVec Ideal S1x128 .f32
  | 0 => broadcast S1x128 z
  | n + 1 => select (cmpi .eq I (broadcast S1x128 (BitVec.ofNat 32 n))) (broadcast S1x128 (f n)) (refAcc f n)

/-- The lane of a row that a word names. -/
def pickC (X : FVec Ideal S1x128 .f32) (w : BitVec 32) : FVec Ideal S1x1 .f32 :=
  across (select (cmpi .eq I (broadcast S1x128 w)) X (broadcast S1x128 z))

/-- A pair's margin. -/
def mcell (X R : FVec Ideal S1x128 .f32) (pc pr : BitVec 32) : FVec Ideal S1x1 .f32 :=
  mulf (broadcast S1x1 (Scalar.ofBits (F := Ideal) .f32 0x3DCCCCCD#32)) (subf (subf (pickC X pc) (pickC R pc)) (subf (pickC X pr) (pickC R pr)))

/-- The row of the first `n` pairs' margins. -/
def margAcc (X R : FVec Ideal S1x128 .f32) (pc pr : ℕ → BitVec 32) : ℕ → FVec Ideal S1x128 .f32
  | 0 => broadcast S1x128 z
  | n + 1 => put (BitVec.ofNat 32 n) (mcell X R (pc n) (pr n)) (margAcc X R pc pr n)

/-- The kernel's row of sums. -/
theorem pol_eq (P : FVec Ideal S15x128 .f32) (G : IVec S15x128 32) :
    k0_pay374 P G I (k0_pay371 P G I (k0_pay369 P G I (k0_pay367 P G I) (k0_pay368 G) (FloatOps.ofBits FTy.f32 0#32)) (k0_pay370 P G)) (k0_pay372 I) (k0_pay373 P G)
      = polAcc P G 12 := rfl

/-- The kernel's row of reference log probabilities. -/
theorem ref_eq (f : ℕ → Ideal .f32) :
    k0_pay380 I (k0_pay377 I (k0_pay375 I (f 0) (f 1)) k0_pay376 (f 2) (f 3) (f 4) (f 5) (f 6) (f 7) (f 8) (f 9)) (k0_pay378 I) (k0_pay379 (f 10)) (f 11)
      = refAcc f 12 := rfl

/-- The kernel's first margin step, over the reference row as computed so far. -/
theorem marg_first (X : FVec Ideal S1x128 .f32) (f : ℕ → Ideal .f32) (a b : BitVec 32) :
    k0_pay381 I X (k0_pay377 I (k0_pay375 I (f 0) (f 1)) k0_pay376 (f 2) (f 3) (f 4) (f 5) (f 6) (f 7) (f 8) (f 9)) (k0_pay378 I) (k0_pay379 (f 10)) (f 11) a b
      = put 0#32 (mcell X (refAcc f 12) a b) (broadcast S1x128 z) := rfl

/-- The kernel's row of margins. -/
theorem marg_eq (X R : FVec Ideal S1x128 .f32) (pc pr : ℕ → BitVec 32) :
    k0_pay391 I X R (k0_pay388 I R (k0_pay385 I X R (k0_pay382 I X R (put 0#32 (mcell X R (pc 0) (pr 0)) (broadcast S1x128 z)) (pc 1) (pr 1)) (pr 2) (k0_pay383 I X (pc 2)) (k0_pay384 (F := Ideal) I (pc 2)))
      (pr 3) (k0_pay386 I X R (pc 3)) (k0_pay387 I X (pr 3))) (k0_pay389 I X R (pc 4)) (k0_pay390 I X R (pr 4)) (pc 5) (pr 5)
      = margAcc X R pc pr 6 := rfl

/-! ## Read at a lane -/

/-- The zero word is zero. -/
theorem z_eq : z = 0 := by show Ideal.ofBits .f32 0#32 = 0; simp [Ideal.ofBits, Ideal.ieee]

/-- A selection on equal words. -/
theorem select_eq (a b : BitVec 32) (x y : EReal) : Scalar.select (IntOp.cmpi .eq a b) x y = if a = b then x else y := by
  by_cases h : a = b
  · rw [if_pos h]; simp [h, Scalar.select, IntOp.cmpi]
  · have hb : (a == b) = false := by simpa using h
    rw [if_neg h]; simp [hb, Scalar.select, IntOp.cmpi]

/-- The lane numbers. -/
theorem I_apply (l : Fin 128) : I (ix2 0 l) = BitVec.ofNat 32 l.val := by
  pointwise

/-- A sum over the lanes. -/
theorem across_apply (R : FVec Ideal S1x128 .f32) : across R (ix2 0 0) = ∑ l : Fin 128, R (ix2 0 l) := by
  unfold across
  pointwise

/-- A sum over the rows. -/
theorem down_apply (P : FVec Ideal S15x128 .f32) (l : Fin 128) : down P (ix2 0 l) = ∑ q : Fin 15, P (ix2 q l) := by
  unfold down
  pointwise

/-- A single entry spread over the lanes. -/
theorem bcast_apply (x : FVec Ideal S1x1 .f32) (l : Fin 128) : broadcastTo S1x128 (shapeCast S1x1 x shapeCasts_S1x1_S1x1) broadcasts_S1x1_S1x128 (ix2 0 l) = x (ix2 0 0) := by
  pointwise

/-- Writing one entry at lane `q`. -/
theorem put_apply (q : BitVec 32) (x : FVec Ideal S1x1 .f32) (acc : FVec Ideal S1x128 .f32) (l : Fin 128) :
    put q x acc (ix2 0 l) = if BitVec.ofNat 32 l.val = q then x (ix2 0 0) else acc (ix2 0 l) := by
  refine (select_eq (I (ix2 0 l)) q _ _).trans ?_
  rw [I_apply, bcast_apply]

/-- Keeping the entries of segment `q`. -/
theorem only_apply (P : FVec Ideal S15x128 .f32) (G : IVec S15x128 32) (q : BitVec 32) (j : S15x128.Idx) :
    only P G q j = if G j = q then P j else 0 := by
  refine (select_eq (G j) q _ _).trans ?_
  exact if_congr Iff.rfl rfl z_eq

/-- A word below 128 is its number. -/
theorem word_iff (a b : ℕ) (ha : a < 128) (hb : b < 128) : BitVec.ofNat 32 a = BitVec.ofNat 32 b ↔ a = b := by
  constructor
  · intro h
    have := congrArg BitVec.toNat h
    simp only [BitVec.toNat_ofNat] at this
    omega
  · rintro rfl; rfl

/-- The sum of sequence `q`. -/
def csum (P : FVec Ideal S15x128 .f32) (G : IVec S15x128 32) (q : ℕ) : EReal :=
  ∑ l : Fin 128, ∑ i : Fin 15, if G (ix2 i l) = BitVec.ofNat 32 q then P (ix2 i l) else 0

/-- The row of sums after `n` sequences. -/
theorem polAcc_apply (P : FVec Ideal S15x128 .f32) (G : IVec S15x128 32) (n : ℕ) (hn : n ≤ 128) (l : Fin 128) :
    polAcc P G n (ix2 0 l) = if l.val < n then csum P G l.val else 0 := by
  induction n with
  | zero => exact z_eq.trans (if_neg (by omega)).symm
  | succ n ih =>
    refine (put_apply _ _ _ l).trans ?_
    rw [ih (by omega), across_apply]
    simp only [word_iff l.val n l.isLt (by omega), down_apply, only_apply]
    by_cases h : l.val = n
    · rw [if_pos h, if_pos (by omega), ← h]; rfl
    · rw [if_neg h]
      exact if_congr (by omega) rfl rfl

/-- The row of reference values after `n` sequences. -/
theorem refAcc_apply (f : ℕ → Ideal .f32) (n : ℕ) (hn : n ≤ 128) (l : Fin 128) :
    refAcc f n (ix2 0 l) = if l.val < n then f l.val else 0 := by
  induction n with
  | zero => exact z_eq.trans (if_neg (by omega)).symm
  | succ n ih =>
    refine (select_eq (I (ix2 0 l)) _ _ _).trans ?_
    rw [I_apply, ih (by omega)]
    have hw := if_congr (word_iff l.val n l.isLt (by omega)) (rfl : f n = f n) (rfl : (if l.val < n then f l.val else 0) = _)
    refine hw.trans ?_
    by_cases h : l.val = n
    · rw [if_pos h, if_pos (by omega), ← h]
    · rw [if_neg h]
      exact if_congr (by omega) rfl rfl

/-- The row of margins after `n` pairs. -/
theorem margAcc_apply (X R : FVec Ideal S1x128 .f32) (pc pr : ℕ → BitVec 32) (n : ℕ) (hn : n ≤ 128) (l : Fin 128) :
    margAcc X R pc pr n (ix2 0 l) = if l.val < n then mcell X R (pc l.val) (pr l.val) (ix2 0 0) else 0 := by
  induction n with
  | zero => exact z_eq.trans (if_neg (by omega)).symm
  | succ n ih =>
    refine (put_apply _ _ _ l).trans ?_
    rw [ih (by omega)]
    simp only [word_iff l.val n l.isLt (by omega)]
    by_cases h : l.val = n
    · rw [if_pos h, if_pos (by omega), ← h]
    · rw [if_neg h]
      exact if_congr (by omega) rfl rfl

/-- A row's lane named by a word, when the row is `f` on the first twelve lanes and zero after. -/
theorem pickC_apply (X : FVec Ideal S1x128 .f32) (f : Fin 12 → EReal) (hX : ∀ l : Fin 128, X (ix2 0 l) = if h : l.val < 12 then f ⟨l.val, h⟩ else 0) (w : BitVec 32) :
    pickC X w (ix2 0 0) = Cert.Spec.pick f w := by
  unfold pickC
  rw [across_apply]
  have e : ∀ l : Fin 128, (select (cmpi .eq I (broadcast S1x128 w)) X (broadcast S1x128 z) : FVec Ideal S1x128 .f32) (ix2 0 l)
      = if h : l.val < 12 then (if BitVec.ofNat 32 l.val = w then f ⟨l.val, h⟩ else 0) else 0 := fun l => by
    refine (select_eq (I (ix2 0 l)) w _ _).trans ?_
    rw [I_apply, hX]
    refine (if_congr Iff.rfl rfl z_eq).trans ?_
    by_cases h : l.val < 12
    · simp only [dif_pos h]
    · simp only [dif_neg h, ite_self]
  rw [Finset.sum_congr rfl fun l _ => e l]
  unfold Cert.Spec.pick
  rw [show (∑ l : Fin 128, if h : l.val < 12 then (if BitVec.ofNat 32 l.val = w then f ⟨l.val, h⟩ else 0) else 0)
    = ∑ l : Fin (12 + 116), if h : l.val < 12 then (if BitVec.ofNat 32 l.val = w then f ⟨l.val, h⟩ else 0) else 0 from rfl, Fin.sum_univ_add]
  rw [Finset.sum_eq_zero (s := Finset.univ) (f := fun i : Fin 116 => if h : (Fin.natAdd 12 i).val < 12 then (if BitVec.ofNat 32 (Fin.natAdd 12 i).val = w then f ⟨(Fin.natAdd 12 i).val, h⟩ else 0) else (0 : EReal))
    fun i _ => dif_neg (by show ¬(12 + i.val < 12); omega), add_zero]
  exact Finset.sum_congr rfl fun q _ => dif_pos (show (Fin.castAdd 116 q).val < 12 from q.isLt)

/-- The margin of a pair. -/
theorem mcell_apply (X R : FVec Ideal S1x128 .f32) (f g : Fin 12 → EReal) (hX : ∀ l : Fin 128, X (ix2 0 l) = if h : l.val < 12 then f ⟨l.val, h⟩ else 0)
    (hR : ∀ l : Fin 128, R (ix2 0 l) = if h : l.val < 12 then g ⟨l.val, h⟩ else 0) (pc pr : BitVec 32) :
    mcell X R pc pr (ix2 0 0) = Cert.Spec.margin f g pc pr := by
  have e : mcell X R pc pr (ix2 0 0) = Ideal.ofBits .f32 0x3DCCCCCD#32 * ((pickC X pc (ix2 0 0) - pickC R pc (ix2 0 0)) - (pickC X pr (ix2 0 0) - pickC R pr (ix2 0 0))) := rfl
  rw [e, pickC_apply X f hX, pickC_apply R g hR, pickC_apply X f hX, pickC_apply R g hR]
  rfl

/-- The loss of a margin. -/
theorem loss_apply (X : FVec Ideal S1x128 .f32) (l : Fin 128) : k0_pay1 X (ix2 0 l) = Cert.Spec.loss (X (ix2 0 l)) := by
  have e : k0_pay1 X (ix2 0 l) = max (z - X (ix2 0 l)) z + Ideal.log1p (Ideal.exp (z - max (X (ix2 0 l)) (-(X (ix2 0 l))))) := rfl
  rw [e, z_eq, zero_sub, zero_sub]
  rfl

end Cert.KernelIdeal.Pair

end
-- ==== Proof.Fin10.lean ====
/- What the last grid step stores in the arrays of sums, losses and margins. -/
module

public import proofs.«01_k».proof.Proof.Step
public import proofs.«01_k».proof.Proof.Tok
public import proofs.«01_k».proof.Proof.Pair
public import proofs.«01_k».proof.Proof.Widen
public import proofs.«01_k».proof.Proof.Label

@[expose] public section

set_option maxRecDepth 16384
set_option maxHeartbeats 1000000

noncomputable section

namespace Cert.KernelIdeal.Fin

open Idealize.ShloMosaic Idealize.ShloMosaic.TcCoe Idealize.ShloMosaic.Tactic Cert.KernelIdeal.Gen Cert.KernelIdeal.Step Cert.KernelIdeal.Tok Cert.KernelIdeal.Pair Cert.KernelIdeal.Widen Cert.KernelIdeal.Chunk Cert.KernelIdeal.Label
open Idealize.SL Idealize.SL.RA Idealize.SL.BI

/-- The origin of a rank-two block. -/
theorem z2 : (![0, 0] : Fin 2 → ℕ) = fun _ => 0 := by funext a; fin_cases a <;> rfl

/-- The token log probabilities times the mask. -/
def masked (T : Vec Ideal S15x128 .f32) (x8 : Vec Ideal S15x128 .i32) : FVec Ideal S15x128 .f32 := fun j => T j * FloatOps.sitofp (F := Ideal) .f32 (x8 j)

/-- The masked log probabilities that the last step forms. -/
theorem masked_eq (T : Vec Ideal S15x128 .f32) (x8 : Vec Ideal S15x128 .i32) :
    k0_pay365 (View.ld T (Rect.unit ![0, 0] ![15, 128] inb_S15x128_S15x128_0_0)) (View.ld x8 (Rect.unit ![0, 0] ![15, 128] inb_S15x128_S15x128_0_0)) = masked T x8 := by
  unfold k0_pay365
  rw [View.ld_unit_zero (S := S15x128) z2, View.ld_unit_zero (S := S15x128) z2]
  simp only [shapeCast_self]
  rfl

/-- The segment ids that the last step loads. -/
theorem seg_eq (x9 : Vec Ideal S15x128 .i32) : k0_pay366 (F := Ideal) (View.ld x9 (Rect.unit ![0, 0] ![15, 128] inb_S15x128_S15x128_0_0)) = x9 := by
  unfold k0_pay366
  rw [View.ld_unit_zero (S := S15x128) z2]
  exact shapeCast_self _ _

/-- The last grid step stores the sequences' sums. -/
theorem out_10 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = polAcc (masked (tokArr (stepM xs0 (wide x5 x6) xs2) (stepS xs0 (wide x5 x6) xs2 xs3) (stepT (BitVec.ofNat 32 (i 0).val) xs0 (wide x5 x6) xs5 xs4)) x8) x9 12 := by
  unfold out0_C_10
  rw [View.read_writes_eq_canon _ _ _ (cover0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg1.read_unread, harg2.read_unread, harg3.read_unread, harg8.read_unread, harg9.read_unread, harg10.read_unread, harg4.read_unread, harg5.read_unread, harg6.read_unread, harg7.read_unread, harg15.read_unread, harg17.read_unread, harg18.read_unread, harg19.read_unread, harg20.read_unread, readCov_ld, canon_t2, ld_w]
  simp only [canonM, canonS, canonT]
  rw [canonTok (stepM xs0 (wide x5 x6) xs2) (stepS xs0 (wide x5 x6) xs2 xs3) (stepT (BitVec.ofNat 32 (i 0).val) xs0 (wide x5 x6) xs5 xs4)]
  rw [View.canon_unit_zero (S := S1x128) z2]
  rw [masked_eq, seg_eq]
  exact pol_eq _ _

end Cert.KernelIdeal.Fin
end
-- ==== Proof.Fin12.lean ====
/- What the last grid step stores in the arrays of sums, losses and margins. -/
module

public import proofs.«01_k».proof.Proof.Fin10
public import proofs.«01_k».proof.Proof.Tok
public import proofs.«01_k».proof.Proof.Pair
public import proofs.«01_k».proof.Proof.Widen
public import proofs.«01_k».proof.Proof.Label

@[expose] public section

set_option maxRecDepth 16384
set_option maxHeartbeats 1000000

noncomputable section

namespace Cert.KernelIdeal.Fin

open Idealize.ShloMosaic Idealize.ShloMosaic.TcCoe Idealize.ShloMosaic.Tactic Cert.KernelIdeal.Gen Cert.KernelIdeal.Step Cert.KernelIdeal.Tok Cert.KernelIdeal.Pair Cert.KernelIdeal.Widen Cert.KernelIdeal.Chunk Cert.KernelIdeal.Label
open Idealize.SL Idealize.SL.RA Idealize.SL.BI

/-- The scalars of a list of twelve, by number. -/
def sc12 (x : Vec Ideal S12 .f32) (q : ℕ) : Ideal .f32 := x (ix1 ⟨q % 12, by omega⟩)
/-- The words of a list of six, by number. -/
def sc6 (x : Vec Ideal S6 .i32) (q : ℕ) : BitVec 32 := x (ix1 ⟨q % 6, by omega⟩)

/-- Loading entry `q` of twelve. -/
theorem ld12 (x : Vec Ideal S12 .f32) (q : ℕ) (inb : ∀ a, (![q] : Fin 1 → ℕ) a + (![1] : Fin 1 → ℕ) a ≤ S12.size a) (h) :
    View.ld x (Rect.unit (s := S12) ![q] ![1] inb) (Shape.Idx.first h) = sc12 x q := by
  have hq : q + 1 ≤ 12 := inb 0
  refine congrArg x ?_
  funext a; apply Fin.ext
  fin_cases a
  show q + 1 * 0 = q % 12
  omega

/-- Loading entry `q` of six. -/
theorem ld6 (x : Vec Ideal S6 .i32) (q : ℕ) (inb : ∀ a, (![q] : Fin 1 → ℕ) a + (![1] : Fin 1 → ℕ) a ≤ S6.size a) (h) :
    View.ld x (Rect.unit (s := S6) ![q] ![1] inb) (Shape.Idx.first h) = sc6 x q := by
  have hq : q + 1 ≤ 6 := inb 0
  refine congrArg x ?_
  funext a; apply Fin.ext
  fin_cases a
  show q + 1 * 0 = q % 6
  omega

/-- The last grid step stores the pairs' margins. -/
theorem out_12 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = (margAcc (polAcc (masked (tokArr (stepM xs0 (wide x5 x6) xs2) (stepS xs0 (wide x5 x6) xs2 xs3) (stepT (BitVec.ofNat 32 (i 0).val) xs0 (wide x5 x6) xs5 xs4)) x8) x9 12) (refAcc (sc12 x0) 12) (sc6 x1) (sc6 x2) 6) := by
  unfold out0_C_12
  rw [View.read_writes_eq_canon _ _ _ (cover0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg1.read_unread, harg2.read_unread, harg3.read_unread, harg8.read_unread, harg9.read_unread, harg10.read_unread, harg4.read_unread, harg5.read_unread, harg6.read_unread, harg7.read_unread, harg15.read_unread, harg17.read_unread, harg18.read_unread, harg19.read_unread, harg20.read_unread, readCov_ld, canon_t2, ld_w]
  simp only [canonM, canonS, canonT]
  rw [canonTok (stepM xs0 (wide x5 x6) xs2) (stepS xs0 (wide x5 x6) xs2 xs3) (stepT (BitVec.ofNat 32 (i 0).val) xs0 (wide x5 x6) xs5 xs4)]
  rw [View.canon_unit_zero (S := S1x128) z2]
  rw [masked_eq, seg_eq]
  rw [ld12 x0 0 inb_S12_S1_0, ld12 x0 1 inb_S12_S1_1, ld12 x0 2 inb_S12_S1_2, ld12 x0 3 inb_S12_S1_3, ld12 x0 4 inb_S12_S1_4, ld12 x0 5 inb_S12_S1_5, ld12 x0 6 inb_S12_S1_6, ld12 x0 7 inb_S12_S1_7, ld12 x0 8 inb_S12_S1_8, ld12 x0 9 inb_S12_S1_9, ld12 x0 10 inb_S12_S1_10, ld12 x0 11 inb_S12_S1_11,
    ld6 x1 0 inb_S6_S1_0, ld6 x2 0 inb_S6_S1_0, ld6 x1 1 inb_S6_S1_1, ld6 x2 1 inb_S6_S1_1, ld6 x1 2 inb_S6_S1_2, ld6 x2 2 inb_S6_S1_2, ld6 x1 3 inb_S6_S1_3, ld6 x2 3 inb_S6_S1_3, ld6 x1 4 inb_S6_S1_4, ld6 x2 4 inb_S6_S1_4, ld6 x1 5 inb_S6_S1_5, ld6 x2 5 inb_S6_S1_5]
  rw [pol_eq, marg_first _ (sc12 x0), ref_eq (sc12 x0)]
  exact marg_eq _ _ (sc6 x1) (sc6 x2)

/-- The last grid step stores the pairs' losses. -/
theorem out_11 (c : Dev nD) (i : grid0.Coords) (arg1 : Memref sig .tc .smem S12 .f32) (harg1 : arg1.IsWhole) (arg2 : Memref sig .tc .smem S6 .i32) (harg2 : arg2.IsWhole) (arg3 : Memref sig .tc .smem S6 .i32) (harg3 : arg3.IsWhole) (arg4 : Memref sig .tc .vmem S1920x4096 .fp8e4m3) (harg4 : arg4.IsWhole) (arg5 : Memref sig .tc .vmem S1920x128 .f32) (harg5 : arg5.IsWhole) (arg6 : Memref sig .tc .vmem S512x4096 .fp8e4m3) (harg6 : arg6.IsWhole) (arg7 : Memref sig .tc .vmem S512x128 .f32) (harg7 : arg7.IsWhole) (arg8 : Memref sig .tc .vmem S15x128 .i32) (harg8 : arg8.IsWhole) (arg9 : Memref sig .tc .vmem S15x128 .i32) (harg9 : arg9.IsWhole) (arg10 : Memref sig .tc .vmem S15x128 .i32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S15x128 .f32) (harg14 : arg14.IsWhole) (arg15 : Memref sig .tc .vmem S1920x4096 .bf16) (harg15 : arg15.IsWhole) (arg16 : Memref sig .tc .vmem S512x4096 .bf16) (harg16 : arg16.IsWhole) (arg17 : Memref sig .tc .vmem S1920x128 .f32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .i32) (harg20 : arg20.IsWhole) (hc0 : ¬cond0_0 i) (hc1 : cond0_1 i)
    (x0 : Vec Ideal S12 .f32) (x1 : Vec Ideal S6 .i32) (x2 : Vec Ideal S6 .i32) (x3 : Vec Ideal S1920x4096 .fp8e4m3) (x4 : Vec Ideal S1920x128 .f32) (x5 : Vec Ideal S512x4096 .fp8e4m3) (x6 : Vec Ideal S512x128 .f32) (x7 : Vec Ideal S15x128 .i32) (x8 : Vec Ideal S15x128 .i32) (x9 : Vec Ideal S15x128 .i32) (xs0 : Vec Ideal S1920x4096 .bf16) (xs2 : Vec Ideal S1920x128 .f32) (xs3 : Vec Ideal S1920x128 .f32) (xs4 : Vec Ideal S1920x128 .f32) (xs5 : Vec Ideal S1920x128 .i32) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5 = k0_pay1 (margAcc (polAcc (masked (tokArr (stepM xs0 (wide x5 x6) xs2) (stepS xs0 (wide x5 x6) xs2 xs3) (stepT (BitVec.ofNat 32 (i 0).val) xs0 (wide x5 x6) xs5 xs4)) x8) x9 12) (refAcc (sc12 x0) 12) (sc6 x1) (sc6 x2) 6) := by
  unfold out0_C_11
  rw [View.read_writes_eq_canon _ _ _ (cover0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 xs4 xs5)]
  unfold kernelRun0_C
  dsimp only
  sl_unfold_words
  simp only [View.readAt_eq_ld, harg1.read_unread, harg2.read_unread, harg3.read_unread, harg8.read_unread, harg9.read_unread, harg10.read_unread, harg4.read_unread, harg5.read_unread, harg6.read_unread, harg7.read_unread, harg15.read_unread, harg17.read_unread, harg18.read_unread, harg19.read_unread, harg20.read_unread, readCov_ld, canon_t2, ld_w]
  simp only [canonM, canonS, canonT]
  rw [canonTok (stepM xs0 (wide x5 x6) xs2) (stepS xs0 (wide x5 x6) xs2 xs3) (stepT (BitVec.ofNat 32 (i 0).val) xs0 (wide x5 x6) xs5 xs4)]
  rw [View.canon_unit_zero (S := S1x128) z2]
  rw [masked_eq, seg_eq]
  rw [ld12 x0 0 inb_S12_S1_0, ld12 x0 1 inb_S12_S1_1, ld12 x0 2 inb_S12_S1_2, ld12 x0 3 inb_S12_S1_3, ld12 x0 4 inb_S12_S1_4, ld12 x0 5 inb_S12_S1_5, ld12 x0 6 inb_S12_S1_6, ld12 x0 7 inb_S12_S1_7, ld12 x0 8 inb_S12_S1_8, ld12 x0 9 inb_S12_S1_9, ld12 x0 10 inb_S12_S1_10, ld12 x0 11 inb_S12_S1_11,
    ld6 x1 0 inb_S6_S1_0, ld6 x2 0 inb_S6_S1_0, ld6 x1 1 inb_S6_S1_1, ld6 x2 1 inb_S6_S1_1, ld6 x1 2 inb_S6_S1_2, ld6 x2 2 inb_S6_S1_2, ld6 x1 3 inb_S6_S1_3, ld6 x2 3 inb_S6_S1_3, ld6 x1 4 inb_S6_S1_4, ld6 x2 4 inb_S6_S1_4, ld6 x1 5 inb_S6_S1_5, ld6 x2 5 inb_S6_S1_5]
  rw [pol_eq, marg_first _ (sc12 x0), ref_eq (sc12 x0)]
  exact congrArg k0_pay1 (marg_eq _ _ (sc6 x1) (sc6 x2))

end Cert.KernelIdeal.Fin
end
-- ==== Proof.OutVal.lean ====
/- The sums, margins and losses the last grid step stores, as functions of the arguments. -/
module

public import proofs.«01_k».proof.Proof.TokVal
public import proofs.«01_k».proof.Proof.Fin12

@[expose] public section

set_option maxRecDepth 16384
set_option maxHeartbeats 1000000

noncomputable section

namespace Cert.KernelIdeal.OutVal

open Idealize.ShloMosaic Idealize.ShloMosaic.TcCoe Idealize.ShloMosaic.Tactic Cert.KernelIdeal.Gen Cert.KernelIdeal.Grid Cert.KernelIdeal.Blocks Cert.KernelIdeal.Tok Cert.KernelIdeal.TokVal Cert.KernelIdeal.Pair Cert.KernelIdeal.Fin Cert.Spec

variable (m : (l : Loc nD τ sig) → Buf (Elt Ideal) l) (c : Dev nD)

/-- Lane `l` of row `q` as token row `128 q + l`. -/
def row : Fin 128 × Fin 15 ≃ Fin 1920 where
  toFun p := ⟨128 * p.2.val + p.1.val, by have := p.1.isLt; have := p.2.isLt; omega⟩
  invFun r := (⟨r.val % 128, by omega⟩, ⟨r.val / 128, by have := r.isLt; omega⟩)
  left_inv p := by
    have := p.1.isLt
    refine Prod.ext (Fin.ext ?_) (Fin.ext ?_)
    · show (128 * p.2.val + p.1.val) % 128 = p.1.val; omega
    · show (128 * p.2.val + p.1.val) / 128 = p.2.val; omega
  right_inv r := by
    apply Fin.ext
    show 128 * (r.val / 128) + r.val % 128 = r.val; omega

/-- The masked sum of sequence `q`. -/
def polA (q : ℕ) : EReal := polv (tokA m c) (fun r => a6 m c (ix2 (hi r) (lo r))) (fun r => a5 m c (ix2 (hi r) (lo r))) q

/-- The last step's sum for sequence `q` is the masked sum over all tokens. -/
theorem csum_eq (q : ℕ) : csum (masked (tokB m c) (iblk m c 8 last)) (iblk m c 9 last) q = polA m c q := by
  unfold csum polA polv
  rw [← Equiv.sum_comp row, Fintype.sum_prod_type]
  refine Finset.sum_congr rfl fun l _ => Finset.sum_congr rfl fun i _ => ?_
  have e8 : (iblk m c 8 last (ix2 i l) : BitVec 32) = a6 m c (ix2 (hi (row (l, i))) (lo (row (l, i)))) := by
    rw [iblk8, V_v3]; exact cast15 _ _ _ _ rfl
  have e9 : (iblk m c 9 last (ix2 i l) : BitVec 32) = a5 m c (ix2 (hi (row (l, i))) (lo (row (l, i)))) := by
    rw [iblk9, V_v4]; exact cast15 _ _ _ _ rfl
  have e : masked (tokB m c) (iblk m c 8 last) (ix2 i l) = tokA m c (row (l, i)) * FloatOps.sitofp (F := Ideal) .f32 (iblk m c 8 last (ix2 i l) : BitVec 32) := rfl
  rw [e, e8]
  exact if_congr (by rw [e9]) rfl rfl

/-- The row of sums. -/
abbrev polR : FVec Ideal S1x128 .f32 := polAcc (masked (tokB m c) (iblk m c 8 last)) (iblk m c 9 last) 12
/-- The row of reference log probabilities. -/
abbrev refR : FVec Ideal S1x128 .f32 := refAcc (sc12 (iblk m c 0 last)) 12
/-- The row of margins. -/
abbrev margR : FVec Ideal S1x128 .f32 := margAcc (polR m c) (refR m c) (sc6 (iblk m c 1 last)) (sc6 (iblk m c 2 last)) 6

/-- The row of sums, lane by lane. -/
theorem polR_apply (l : Fin 128) : polR m c (ix2 0 l) = if h : l.val < 12 then (fun q : Fin 12 => polA m c q.val) ⟨l.val, h⟩ else 0 := by
  refine (polAcc_apply _ _ 12 (by decide) l).trans ?_
  rw [csum_eq]
  by_cases h : l.val < 12
  · rw [if_pos h, dif_pos h]
  · rw [if_neg h, dif_neg h]

/-- The row of reference log probabilities, lane by lane. -/
theorem refR_apply (l : Fin 128) : refR m c (ix2 0 l) = if h : l.val < 12 then (fun q : Fin 12 => (a7 m c (ix1 q) : EReal)) ⟨l.val, h⟩ else 0 := by
  refine (refAcc_apply _ 12 (by decide) l).trans ?_
  by_cases h : l.val < 12
  · rw [if_pos h, dif_pos h]
    unfold sc12
    rw [iblk0, V_main_arg7]
    refine congrArg (fun q : Fin 12 => (a7 m c (ix1 q) : EReal)) (Fin.ext ?_)
    show l.val % 12 = l.val
    omega
  · rw [if_neg h, dif_neg h]

/-- A pair's margin. -/
def margA (p : Fin 6) : EReal := margin (fun q => polA m c q.val) (fun q => a7 m c (ix1 q)) (a8 m c (ix1 p)) (a9 m c (ix1 p))

/-- The row of margins at lane `p`. -/
theorem margR_apply (p : Fin 6) : margR m c (ix2 0 ⟨p.val, by omega⟩) = margA m c p := by
  refine (margAcc_apply _ _ _ _ 6 (by decide) _).trans ?_
  rw [if_pos p.isLt, mcell_apply (polR m c) (refR m c) (fun q : Fin 12 => polA m c q.val) (fun q : Fin 12 => (a7 m c (ix1 q) : EReal)) (polR_apply m c) (refR_apply m c)]
  have e : ∀ x : Vec Ideal S6 .i32, sc6 x p.val = x (ix1 p) := fun x => congrArg (fun q : Fin 6 => x (ix1 q)) (Fin.ext (by show p.val % 6 = p.val; omega))
  unfold margA
  simp only [e]
  rw [iblk1, iblk2, V_main_arg8, V_main_arg9]

/-- The last step leaves the row of sums. -/
theorem out10 : (outsAt0 m c last.val last.isLt).1 = polR m c := by
  have e := outsAt0_C m c last (by show ¬(63 % 64 = 0); decide) (by rfl)
  refine (congrArg (fun o => o.1) e).trans ?_
  dsimp only
  rw [out_10]
  exact congrArg (fun T => polAcc (masked T (iblk m c 8 last)) (iblk m c 9 last) 12) (tok_last m c _ _ rfl)

/-- The last step leaves the row of margins. -/
theorem out12 : (outsAt0 m c last.val last.isLt).2.2.1 = margR m c := by
  have e := outsAt0_C m c last (by show ¬(63 % 64 = 0); decide) (by rfl)
  refine (congrArg (fun o => o.2.2.1) e).trans ?_
  dsimp only
  rw [out_12]
  exact congrArg (fun T => margAcc (polAcc (masked T (iblk m c 8 last)) (iblk m c 9 last) 12) (refR m c) (sc6 (iblk m c 1 last)) (sc6 (iblk m c 2 last)) 6) (tok_last m c _ _ rfl)

/-- The last step leaves the row of losses. -/
theorem out11 : (outsAt0 m c last.val last.isLt).2.1 = k0_pay1 (margR m c) := by
  have e := outsAt0_C m c last (by show ¬(63 % 64 = 0); decide) (by rfl)
  refine (congrArg (fun o => o.2.1) e).trans ?_
  dsimp only
  rw [out_11]
  exact congrArg (fun T => k0_pay1 (margAcc (polAcc (masked T (iblk m c 8 last)) (iblk m c 9 last) 12) (refR m c) (sc6 (iblk m c 1 last)) (sc6 (iblk m c 2 last)) 6)) (tok_last m c _ _ rfl)

end Cert.KernelIdeal.OutVal

end
-- ==== Proof.Final.lean ====
/- What the kernel's run leaves in its four result arrays, as functions of the arguments. -/
module

public import proofs.«01_k».proof.Proof.OutVal
public import proofs.«01_k».proof.Proof.Gen.KernelIdeal.Frame
public import Idealize.ShloMosaic.Lib.Pipeline.Value
public import Idealize.ShloMosaic.Lib.StableHlo.Run

@[expose] public section

set_option maxRecDepth 16384
set_option maxHeartbeats 1000000

noncomputable section

namespace Cert.KernelIdeal.Final

open Idealize.ShloMosaic Idealize.ShloMosaic.TcCoe Idealize.ShloMosaic.Tactic Cert.KernelIdeal.Gen Cert.KernelIdeal.Grid Cert.KernelIdeal.Blocks Cert.KernelIdeal.Tok Cert.KernelIdeal.TokVal Cert.KernelIdeal.Pair Cert.KernelIdeal.Fin Cert.Spec Cert.KernelIdeal.OutVal
open Idealize.SL.Sem
open Idealize.ShloMosaic.Pipeline (Dat)

variable (m : (l : Loc nD τ sig) → Buf (Elt Ideal) l) (ρ : Dev nD → PrngReg) (c : Dev nD)

/-- The grid has 64 points, so the one whose number is 63 modulo 64 is the last. -/
theorem eq_last (t : Fin cfg0.N) (h : t.val % 64 = 63) : t = last := by
  have := t.isLt
  have e : cfg0.N = 64 := N_0
  exact Fin.ext (by show t.val = 63; omega)

/-- An index lies in the block of index zero. -/
theorem bounds_zero {S : Shape} (idx : Fin S.rank → ℕ) (h : ∀ a, idx a = 0) (i : S.Idx) (a : Fin S.rank) :
    idx a * S.size a ≤ (i a).val ∧ (i a).val < idx a * S.size a + S.size a := by
  have := (i a).isLt
  rw [h a]; omega

/-- The block of index zero starts at the array's start. -/
theorem ext_zero {S : Shape} (idx : Fin S.rank → ℕ) (h : ∀ a, idx a = 0) (y z : S.Idx)
    (hz : ∀ a, (z a).val = idx a * S.size a + 1 * (y a).val) : y = z := by
  funext a
  apply Fin.ext
  rw [hz a, h a]; omega

/-- The last point's number is 63 modulo 64. -/
theorem last_mod : (last : Fin cfg0.N).val % 64 = 63 := rfl

/-- Window 10's block index is zero at every point: its block is its whole array. -/
theorem idx10 : ∀ (t : Fin cfg0.N) (a : Fin 2), win0_10.index t a = 0 :=
  (by decide +kernel : ∀ (t : Fin grid0.N) (a : Fin 2), _)

/-- The indices of that block. -/
theorem mem_blk10 (t : Fin cfg0.N) (i : S1x128.Idx) : i ∈ ((cfg0.win 10).blk t).view.set := by
  show i ∈ ((View.whole main_v5_0).slice (win0_10.rect t)).set
  rw [View.set_slice_whole, Rect.mem_set_unit]
  exact bounds_zero (win0_10.index t) (idx10 t) i

/-- What the last point writes back to array 10. -/
theorem flushed10 (t : Fin cfg0.N) (hf : (cfg0.win 10).flush t = true) :
    (dats m 0 c).flushed 10 t = ((cfg0.win 10).blk t).view.read (Elt Ideal) (polR m c) := by
  obtain rfl : t = last := eq_last t ((flush0_10 t).mp hf)
  show (cfg0.win 10).cut (grid0.coords last) ((dats m 0 c).after 10 last) = _
  rw [after0_10, out10 m c]
  funext y
  exact congrArg (polR m c) (ext_zero (S := S1x128) (win0_10.index last) (idx10 last) ((cfg0.win 10).xinj (grid0.coords last) y)
    (((cfg0.win 10).blk last).view.emb y) fun a => rfl)

/-- Result array 10 after the run. -/
theorem final10 : (dats m 0 c).arrAt 10 cfg0.N = polR m c :=
  (dats m 0 c).arrAt_eq_of_cover 10 _ (fun t hf => flushed10 m c t hf) fun i => ⟨last, (flush0_10 last).mpr last_mod, mem_blk10 last i⟩

/-- Window 11's block index is zero at every point: its block is its whole array. -/
theorem idx11 : ∀ (t : Fin cfg0.N) (a : Fin 2), win0_11.index t a = 0 :=
  (by decide +kernel : ∀ (t : Fin grid0.N) (a : Fin 2), _)

/-- The indices of that block. -/
theorem mem_blk11 (t : Fin cfg0.N) (i : S1x128.Idx) : i ∈ ((cfg0.win 11).blk t).view.set := by
  show i ∈ ((View.whole main_v5_1).slice (win0_11.rect t)).set
  rw [View.set_slice_whole, Rect.mem_set_unit]
  exact bounds_zero (win0_11.index t) (idx11 t) i

/-- What the last point writes back to array 11. -/
theorem flushed11 (t : Fin cfg0.N) (hf : (cfg0.win 11).flush t = true) :
    (dats m 0 c).flushed 11 t = ((cfg0.win 11).blk t).view.read (Elt Ideal) (k0_pay1 (margR m c)) := by
  obtain rfl : t = last := eq_last t ((flush0_11 t).mp hf)
  show (cfg0.win 11).cut (grid0.coords last) ((dats m 0 c).after 11 last) = _
  rw [after0_11, out11 m c]
  funext y
  exact congrArg (k0_pay1 (margR m c)) (ext_zero (S := S1x128) (win0_11.index last) (idx11 last) ((cfg0.win 11).xinj (grid0.coords last) y)
    (((cfg0.win 11).blk last).view.emb y) fun a => rfl)

/-- Result array 11 after the run. -/
theorem final11 : (dats m 0 c).arrAt 11 cfg0.N = k0_pay1 (margR m c) :=
  (dats m 0 c).arrAt_eq_of_cover 11 _ (fun t hf => flushed11 m c t hf) fun i => ⟨last, (flush0_11 last).mpr last_mod, mem_blk11 last i⟩

/-- Window 12's block index is zero at every point: its block is its whole array. -/
theorem idx12 : ∀ (t : Fin cfg0.N) (a : Fin 2), win0_12.index t a = 0 :=
  (by decide +kernel : ∀ (t : Fin grid0.N) (a : Fin 2), _)

/-- The indices of that block. -/
theorem mem_blk12 (t : Fin cfg0.N) (i : S1x128.Idx) : i ∈ ((cfg0.win 12).blk t).view.set := by
  show i ∈ ((View.whole main_v5_2).slice (win0_12.rect t)).set
  rw [View.set_slice_whole, Rect.mem_set_unit]
  exact bounds_zero (win0_12.index t) (idx12 t) i

/-- What the last point writes back to array 12. -/
theorem flushed12 (t : Fin cfg0.N) (hf : (cfg0.win 12).flush t = true) :
    (dats m 0 c).flushed 12 t = ((cfg0.win 12).blk t).view.read (Elt Ideal) (margR m c) := by
  obtain rfl : t = last := eq_last t ((flush0_12 t).mp hf)
  show (cfg0.win 12).cut (grid0.coords last) ((dats m 0 c).after 12 last) = _
  rw [after0_12, out12 m c]
  funext y
  exact congrArg (margR m c) (ext_zero (S := S1x128) (win0_12.index last) (idx12 last) ((cfg0.win 12).xinj (grid0.coords last) y)
    (((cfg0.win 12).blk last).view.emb y) fun a => rfl)

/-- Result array 12 after the run. -/
theorem final12 : (dats m 0 c).arrAt 12 cfg0.N = margR m c :=
  (dats m 0 c).arrAt_eq_of_cover 12 _ (fun t hf => flushed12 m c t hf) fun i => ⟨last, (flush0_12 last).mpr last_mod, mem_blk12 last i⟩

/-- Window 13's block index is zero at every point: its block is its whole array. -/
theorem idx13 : ∀ (t : Fin cfg0.N) (a : Fin 2), win0_13.index t a = 0 :=
  (by decide +kernel : ∀ (t : Fin grid0.N) (a : Fin 2), _)

/-- The indices of that block. -/
theorem mem_blk13 (t : Fin cfg0.N) (i : S15x128.Idx) : i ∈ ((cfg0.win 13).blk t).view.set := by
  show i ∈ ((View.whole main_v5_3).slice (win0_13.rect t)).set
  rw [View.set_slice_whole, Rect.mem_set_unit]
  exact bounds_zero (win0_13.index t) (idx13 t) i

/-- What the last point writes back to array 13. -/
theorem flushed13 (t : Fin cfg0.N) (hf : (cfg0.win 13).flush t = true) :
    (dats m 0 c).flushed 13 t = ((cfg0.win 13).blk t).view.read (Elt Ideal) (tokB m c) := by
  obtain rfl : t = last := eq_last t ((flush0_13 t).mp hf)
  show (cfg0.win 13).cut (grid0.coords last) ((dats m 0 c).after 13 last) = _
  rw [after0_13, out13 m c]
  funext y
  exact congrArg (tokB m c) (ext_zero (S := S15x128) (win0_13.index last) (idx13 last) ((cfg0.win 13).xinj (grid0.coords last) y)
    (((cfg0.win 13).blk last).view.emb y) fun a => rfl)

/-- Result array 13 after the run. -/
theorem final13 : (dats m 0 c).arrAt 13 cfg0.N = tokB m c :=
  (dats m 0 c).arrAt_eq_of_cover 13 _ (fun t hf => flushed13 m c t hf) fun i => ⟨last, (flush0_13 last).mpr last_mod, mem_blk13 last i⟩

/-- The windows' arrays are distinct. -/
theorem arr_inj : Function.Injective (Pipeline.arrRef (cfgs (0 : Fin 1)).spec) := by
  have h : ∀ w w' : Fin 14, Pipeline.arrRef spec0 w = Pipeline.arrRef spec0 w' → w = w' := by decide
  exact fun w w' e => h w w' e

/-- The state in which the host's last operations start: the result arrays as the grid left them. -/
abbrev W0 : Valuation τ sig (Elt Ideal) := Pipeline.withArrays (cfgs 0).spec c (V0 m c) fun w => (dats m 0 c).arrAt w (cfgs 0).N

/-- The first result's array before the host's last operations. -/
theorem W0_10 : W0 m c (Proc.devRef .tc main_v5_0) = polR m c :=
  (Pipeline.withArrays_arr (cfgs (0 : Fin 1)).spec arr_inj c (V0 m c) _ 10).trans (final10 m c)
/-- The second result's. -/
theorem W0_11 : W0 m c (Proc.devRef .tc main_v5_1) = k0_pay1 (margR m c) :=
  (Pipeline.withArrays_arr (cfgs (0 : Fin 1)).spec arr_inj c (V0 m c) _ 11).trans (final11 m c)
/-- The third result's. -/
theorem W0_12 : W0 m c (Proc.devRef .tc main_v5_2) = margR m c :=
  (Pipeline.withArrays_arr (cfgs (0 : Fin 1)).spec arr_inj c (V0 m c) _ 12).trans (final12 m c)
/-- The fourth result's. -/
theorem W0_13 : W0 m c (Proc.devRef .tc main_v5_3) = tokB m c :=
  (Pipeline.withArrays_arr (cfgs (0 : Fin 1)).spec arr_inj c (V0 m c) _ 13).trans (final13 m c)

/-- A buffer's contents after the host's last operations. -/
abbrev T (b : Ref sig .tc) := Pipeline.afterTail₀ cfgs (dats m) 0 (V0 m) [hostOps1] c b

/-- The first buffer returned: twelve entries of the row of sums. -/
theorem T7 : T m c main_v7 = shapeCast S12 (extractStridedSlice S1x12 ![0, 0] (polR m c) slices_S1x128_S1x12_0_0) shapeCasts_S1x12_S12 := by
  rw [← W0_10 m c]
  unfold T Pipeline.afterTail₀ hostOps1; simp only [List.flatten_cons, List.flatten_nil, List.append_nil]; after_results; rfl
/-- The second: six entries of the row of losses. -/
theorem T9 : T m c main_v9 = shapeCast S6 (extractStridedSlice S1x6 ![0, 0] (k0_pay1 (margR m c)) slices_S1x128_S1x6_0_0) shapeCasts_S1x6_S6 := by
  rw [← W0_11 m c]
  unfold T Pipeline.afterTail₀ hostOps1; simp only [List.flatten_cons, List.flatten_nil, List.append_nil]; after_results; rfl
/-- The third: six entries of the row of margins. -/
theorem T11 : T m c main_v11 = shapeCast S6 (extractStridedSlice S1x6 ![0, 0] (margR m c) slices_S1x128_S1x6_0_0) shapeCasts_S1x6_S6 := by
  rw [← W0_12 m c]
  unfold T Pipeline.afterTail₀ hostOps1; simp only [List.flatten_cons, List.flatten_nil, List.append_nil]; after_results; rfl
/-- The fourth: the token log probabilities in the batch's shape. -/
theorem T12 : T m c main_v12 = shapeCast S3x640 (tokB m c) shapeCasts_S15x128_S3x640 := by
  rw [← W0_13 m c]
  unfold T Pipeline.afterTail₀ hostOps1; simp only [List.flatten_cons, List.flatten_nil, List.append_nil]; after_results; rfl

/-- The first result at sequence `q`. -/
theorem T7_apply (q : Fin 12) : (T m c main_v7 : FVec Ideal S12 .f32) (ix1 q) = polA m c q.val := by
  rw [T7]
  refine (shapeCast_apply _ _ (ix1 q) (ix2 (0 : Fin 1) q) ?_).trans ?_
  · rw [Shape.rowMajor_val_two, Shape.rowMajor_val_one]; show 0 * 12 + q.val = q.val; omega
  refine (extractStridedSlice_apply _ _ _ (ix2 (0 : Fin 1) q) (ix2 (0 : Fin 1) (⟨q.val, by omega⟩ : Fin 128)) ?_).trans ?_
  · intro a; match a with | ⟨0, _⟩ => rfl | ⟨1, _⟩ => show q.val = 0 + q.val; omega
  refine (polR_apply m c ⟨q.val, by omega⟩).trans ?_
  rw [dif_pos q.isLt]

/-- Entry `p` of a row of 128 cut to six. -/
theorem cut6 (x : FVec Ideal S1x128 .f32) (p : Fin 6) :
    shapeCast S6 (extractStridedSlice S1x6 ![0, 0] x slices_S1x128_S1x6_0_0) shapeCasts_S1x6_S6 (ix1 p) = x (ix2 (0 : Fin 1) (⟨p.val, by omega⟩ : Fin 128)) := by
  refine (shapeCast_apply _ _ (ix1 p) (ix2 (0 : Fin 1) p) ?_).trans ?_
  · rw [Shape.rowMajor_val_two, Shape.rowMajor_val_one]; show 0 * 6 + p.val = p.val; omega
  refine (extractStridedSlice_apply _ _ _ (ix2 (0 : Fin 1) p) (ix2 (0 : Fin 1) (⟨p.val, by omega⟩ : Fin 128)) ?_)
  intro a; match a with | ⟨0, _⟩ => rfl | ⟨1, _⟩ => show p.val = 0 + p.val; omega

/-- The third result at pair `p`. -/
theorem T11_apply (p : Fin 6) : (T m c main_v11 : FVec Ideal S6 .f32) (ix1 p) = margA m c p := by
  rw [T11, cut6]
  exact margR_apply m c p

/-- The second result at pair `p`. -/
theorem T9_apply (p : Fin 6) : (T m c main_v9 : FVec Ideal S6 .f32) (ix1 p) = Cert.Spec.loss (margA m c p) := by
  rw [T9, cut6]
  refine (loss_apply _ _).trans ?_
  rw [margR_apply]

/-- The fourth result at batch `b`, position `p`. -/
theorem T12_apply (b : Fin 3) (p : Fin 640) : (T m c main_v12 : FVec Ideal S3x640 .f32) (ix2 b p) = tokA m c ⟨b.val * 640 + p.val, by omega⟩ := by
  rw [T12]
  refine (shapeCast_apply _ _ (ix2 b p) (ix2 (⟨(b.val * 640 + p.val) / 128, by omega⟩ : Fin 15) (⟨(b.val * 640 + p.val) % 128, by omega⟩ : Fin 128)) ?_).trans ?_
  · rw [Shape.rowMajor_val_two, Shape.rowMajor_val_two]
    show (b.val * 640 + p.val) / 128 * 128 + (b.val * 640 + p.val) % 128 = b.val * 640 + p.val; omega
  unfold tokB
  refine congrArg (tokA m c) (Fin.ext ?_)
  show 128 * ((b.val * 640 + p.val) / 128) + (b.val * 640 + p.val) % 128 = b.val * 640 + p.val; omega

/-- The run leaves the four results above and the arguments as they were. -/
theorem run : θ_run defs (onTc (τ := τ) (main (F := Ideal))) ⟨m, fun _ => 0, ρ⟩ (fun r => (∀ c : Dev nD,
      r.2.mem ((c.tc : Thread nD τ).loc main_v7) = T m c main_v7
      ∧ r.2.mem ((c.tc : Thread nD τ).loc main_v9) = T m c main_v9
      ∧ r.2.mem ((c.tc : Thread nD τ).loc main_v11) = T m c main_v11
      ∧ r.2.mem ((c.tc : Thread nD τ).loc main_v12) = T m c main_v12)) :=
  (θ_run defs _ _).mono (fun _ h c =>
    ⟨(h c).2 main_v7 (Pipeline.mem_restRefs_of main_v7 (by decide) (by decide)),
     (h c).2 main_v9 (Pipeline.mem_restRefs_of main_v9 (by decide) (by decide)),
     (h c).2 main_v11 (Pipeline.mem_restRefs_of main_v11 (by decide) (by decide)),
     (h c).2 main_v12 (Pipeline.mem_restRefs_of main_v12 (by decide) (by decide))⟩) (run_main m ρ)

end Cert.KernelIdeal.Final
-- ==== Proof.RefRead.lean ====
/- What the reference computes, read at an index and stated in the terms of Spec. -/
module

public import proofs.«01_k».proof.Proof.Gen.ReferenceIdeal.Value
public import proofs.«01_k».proof.Proof.Spec
public import proofs.«01_k».proof.Proof.RowMax

@[expose] public section

set_option maxRecDepth 16384

noncomputable section

namespace Cert.ReferenceIdeal.Read

open Idealize.ShloMosaic Cert.Spec Cert.ReferenceIdeal.Gen

/-- The head weights, widened: code times block scale. -/
def wB (v0 : Vec Ideal S32768x4096 .fp8e4m3) (v1 : Vec Ideal S32768x128 .f32) : FVec Ideal S32768x4096 .bf16 :=
  have v2 : FVec Ideal S32768x4096 .bf16 := extf .bf16 v0 bitsLt_fp8e4m3_bf16
  have v3 : FVec Ideal S32768x128x32 .bf16 := shapeCast S32768x128x32 v2 shapeCasts_S32768x4096_S32768x128x32
  have v4 : FVec Ideal S32768x128 .bf16 := truncf .bf16 v1 bitsLt_bf16_f32
  have v5 : FVec Ideal S32768x128x1 .bf16 := shapeCast S32768x128x1 v4 shapeCasts_S32768x128_S32768x128x1
  have v6 : FVec Ideal S32768x128x32 .bf16 := broadcastTo S32768x128x32 v5 broadcasts_S32768x128x1_S32768x128x32
  have v7 : FVec Ideal S32768x128x32 .bf16 := mulf v3 v6
  have v8 : FVec Ideal S32768x4096 .bf16 := shapeCast S32768x4096 v7 shapeCasts_S32768x128x32_S32768x4096
  v8

/-- The activations, widened: code times block scale, one row per token. -/
def hB (v9 : Vec Ideal S3x640x4096 .fp8e4m3) (v10 : Vec Ideal S3x640x128 .f32) : FVec Ideal S1920x4096 .bf16 :=
  have v11 : FVec Ideal S3x640x4096 .bf16 := extf .bf16 v9 bitsLt_fp8e4m3_bf16
  have v12 : FVec Ideal S3x640x128x32 .bf16 := shapeCast S3x640x128x32 v11 shapeCasts_S3x640x4096_S3x640x128x32
  have v13 : FVec Ideal S3x640x128 .bf16 := truncf .bf16 v10 bitsLt_bf16_f32
  have v14 : FVec Ideal S3x640x128x1 .bf16 := shapeCast S3x640x128x1 v13 shapeCasts_S3x640x128_S3x640x128x1
  have v15 : FVec Ideal S3x640x128x32 .bf16 := broadcastTo S3x640x128x32 v14 broadcasts_S3x640x128x1_S3x640x128x32
  have v16 : FVec Ideal S3x640x128x32 .bf16 := mulf v12 v15
  have v17 : FVec Ideal S3x640x4096 .bf16 := shapeCast S3x640x4096 v16 shapeCasts_S3x640x128x32_S3x640x4096
  have v18 : FVec Ideal S1920x4096 .bf16 := shapeCast S1920x4096 v17 shapeCasts_S3x640x4096_S1920x4096
  v18

/-- The product of the two. -/
def logits (v18 : FVec Ideal S1920x4096 .bf16) (v8 : FVec Ideal S32768x4096 .bf16) : FVec Ideal S1920x32768 .f32 :=
  have cst : FVec Ideal S1920x32768 .f32 := constant S1920x32768 .f32 0x00000000#32
  have v19 : FVec Ideal S1920x32768 .f32 := matmul dot_S1920x4096_S32768x4096_S1920x32768_1_1_0_0_n_n none v18 v8 cst
  v19

/-- The greatest logit of each row. -/
def top (v19 : FVec Ideal S1920x32768 .f32) : FVec Ideal S1920 .f32 :=
  have v20 : FVec Ideal S1920 .f32 := multiReduction .maximumf [1] S1920 v19 0xFF800000#32 reduces_S1920x32768_S1920 (.inl rfl) rfl
  v20

/-- The log-sum-exp of each row, from its greatest logit. -/
def lseOf (v20 : FVec Ideal S1920 .f32) (v19 : FVec Ideal S1920x32768 .f32) : FVec Ideal S1920x1 .f32 :=
  have v21 : FVec Ideal S1920x1 .f32 := shapeCast S1920x1 v20 shapeCasts_S1920_S1920x1
  have v22 : FVec Ideal S1920x32768 .f32 := broadcastTo S1920x32768 v21 broadcasts_S1920x1_S1920x32768
  have v23 : FVec Ideal S1920x32768 .f32 := subf v19 v22
  have v24 : FVec Ideal S1920x32768 .f32 := exp v23
  have v25 : FVec Ideal S1920 .f32 := multiReduction .add [1] S1920 v24 0x00000000#32 reduces_S1920x32768_S1920 (.inl rfl) rfl
  have v26 : FVec Ideal S1920x1 .f32 := shapeCast S1920x1 v25 shapeCasts_S1920_S1920x1
  have v27 : FVec Ideal S1920x1 .f32 := log v26
  have v28 : FVec Ideal S1920x1 .f32 := addf v21 v27
  v28

/-- The label's logit of each row. -/
def tgt (v19 : FVec Ideal S1920x32768 .f32) (v30 : Vec Ideal S3x640 .i32) : FVec Ideal S1920x1 .f32 :=
  have v29 : IVec S1920x32768 32 := iota .tc S1920x32768 32 [1] iota_S1920x32768_d1_w32
  have v31 : IVec S1920 32 := shapeCast S1920 v30 shapeCasts_S3x640_S1920
  have v32 : IVec S1920x1 32 := shapeCast S1920x1 v31 shapeCasts_S1920_S1920x1
  have v33 : IVec S1920x32768 32 := broadcastTo S1920x32768 v32 broadcasts_S1920x1_S1920x32768
  have v34 : IVec S1920x32768 1 := cmpi .eq v29 v33
  have cst_13 : Ideal .f32 := Scalar.ofBits .f32 0x00000000#32
  have v35 : FVec Ideal S1920x32768 .f32 := broadcast S1920x32768 cst_13
  have v36 : FVec Ideal S1920x32768 .f32 := select v34 v19 v35
  have v37 : FVec Ideal S1920 .f32 := multiReduction .add [1] S1920 v36 0x00000000#32 reduces_S1920x32768_S1920 (.inl rfl) rfl
  have v38 : FVec Ideal S1920x1 .f32 := shapeCast S1920x1 v37 shapeCasts_S1920_S1920x1
  v38

/-- The token log probabilities, in named stages. -/
theorem pay1_eq (w : Vec Ideal S32768x4096 .fp8e4m3) (ws : Vec Ideal S32768x128 .f32) (h : Vec Ideal S3x640x4096 .fp8e4m3)
    (hs : Vec Ideal S3x640x128 .f32) (lab : Vec Ideal S3x640 .i32) :
    Gen.k0_pay1 w ws h hs lab
      = shapeCast S3x640 (subf (tgt (logits (hB h hs) (wB w ws)) lab) (lseOf (top (logits (hB h hs) (wB w ws))) (logits (hB h hs) (wB w ws)))) shapeCasts_S1920x1_S3x640 := rfl

/-- A widened weight. -/
theorem wB_apply (w : Vec Ideal S32768x4096 .fp8e4m3) (ws : Vec Ideal S32768x128 .f32) (v : Fin 32768) (k : Fin 4096) :
    wB w ws (ix2 v k) = W w ws v k := by
  pointwise [wB]; rfl

/-- A widened activation. -/
theorem hB_apply (h : Vec Ideal S3x640x4096 .fp8e4m3) (hs : Vec Ideal S3x640x128 .f32) (r : Fin 1920) (k : Fin 4096) :
    hB h hs (ix2 r k) = H h hs r k := by
  pointwise [hB]; rfl

/-- A logit. -/
theorem logits_apply (x : FVec Ideal S1920x4096 .bf16) (y : FVec Ideal S32768x4096 .bf16) (r : Fin 1920) (v : Fin 32768) :
    logits x y (ix2 r v) = ∑ k : Fin 4096, x (ix2 r k) * y (ix2 v k) := by
  pointwise [logits]

/-- The largest logit of a row. -/
theorem top_apply (x : FVec Ideal S1920x32768 .f32) (r : Fin 1920) : top x (ix1 r) = Finset.univ.sup (fun v => x (ix2 r v)) :=
  RowMax.rowMax x _ r

/-- The log-sum-exp of a row. -/
theorem lseOf_apply (t : FVec Ideal S1920 .f32) (x : FVec Ideal S1920x32768 .f32) (r : Fin 1920) (z : Fin 1) :
    lseOf t x (ix2 r z) = t (ix1 r) + Ideal.log (∑ v : Fin 32768, Ideal.exp (x (ix2 r v) - t (ix1 r))) := by
  pointwise [lseOf]

/-- A selection on equal words, else zero. -/
theorem select_eq (a b : BitVec 32) (x : EReal) : Scalar.select (IntOp.cmpi .eq a b) x 0 = if a = b then x else 0 := by
  by_cases h : a = b
  · subst h; simp [Scalar.select, IntOp.cmpi]
  · have : (a == b) = false := by simpa using h
    simp [Scalar.select, IntOp.cmpi, h, this]

/-- The label's logit of a row. -/
theorem tgt_apply (x : FVec Ideal S1920x32768 .f32) (lab : Vec Ideal S3x640 .i32) (r : Fin 1920) (z : Fin 1) :
    tgt x lab (ix2 r z) = ∑ v : Fin 32768, if BitVec.ofNat 32 v.val = lab (ix2 (hi r) (lo r)) then x (ix2 r v) else 0 := by
  pointwise [tgt]
  simp only [select_eq]; rfl

/-- A row of the flat token axis from a batch and a position. -/
def row (b : Fin 3) (p : Fin 640) : Fin 1920 := ⟨b.val * 640 + p.val, by omega⟩

/-- The flattened rows as batch and position. -/
theorem sc_apply (x : FVec Ideal S1920x1 .f32) (b : Fin 3) (p : Fin 640) :
    shapeCast S3x640 x shapeCasts_S1920x1_S3x640 (ix2 b p) = x (ix2 (row b p) 0) := by
  pointwise
  rfl

/-- The log probability at batch `b`, position `p`. -/
theorem pay1_apply (w : Vec Ideal S32768x4096 .fp8e4m3) (ws : Vec Ideal S32768x128 .f32) (h : Vec Ideal S3x640x4096 .fp8e4m3)
    (hs : Vec Ideal S3x640x128 .f32) (lab : Vec Ideal S3x640 .i32) (b : Fin 3) (p : Fin 640) :
    Gen.k0_pay1 w ws h hs lab (ix2 b p) = tokv (logit h hs w ws (row b p)) (lab (ix2 b p)) := by
  have hb : hi (row b p) = b := Fin.ext (by show (b.val * 640 + p.val) / 640 = b.val; omega)
  have hp : lo (row b p) = p := Fin.ext (by show (b.val * 640 + p.val) % 640 = p.val; omega)
  rw [pay1_eq, sc_apply]
  show tgt _ _ (ix2 (row b p) 0) - lseOf _ _ (ix2 (row b p) 0) = _
  rw [tgt_apply, lseOf_apply, top_apply, hb, hp]
  simp only [logits_apply, hB_apply, wB_apply]
  rfl

/-- The masked sum of sequence `q`. -/
theorem pay2_apply (tok : Vec Ideal S3x640 .f32) (mask seg : Vec Ideal S3x640 .i32) (q : Fin 12) :
    Gen.k0_pay2 tok mask seg (ix1 q)
      = polv (fun r => tok (ix2 (hi r) (lo r))) (fun r => mask (ix2 (hi r) (lo r))) (fun r => seg (ix2 (hi r) (lo r))) q.val := by
  pointwise [Gen.k0_pay2]
  simp only [select_eq]; rfl

/-- The chosen sequence's sum. -/
theorem pay3_apply (tok : Vec Ideal S3x640 .f32) (mask seg : Vec Ideal S3x640 .i32) (pc : Vec Ideal S6 .i32) (i : Fin 6) :
    Gen.k0_pay3 tok mask seg pc (ix1 i) = pick (fun q => Gen.k0_pay2 tok mask seg (ix1 q)) (pc (ix1 i)) := by
  pointwise [Gen.k0_pay3]
  simp only [select_eq]; rfl

/-- The rejected sequence's sum. -/
theorem pay4_apply (tok : Vec Ideal S3x640 .f32) (mask seg : Vec Ideal S3x640 .i32) (pc : Vec Ideal S6 .i32) (i : Fin 6) :
    Gen.k0_pay4 tok mask seg pc (ix1 i) = pick (fun q => Gen.k0_pay2 tok mask seg (ix1 q)) (pc (ix1 i)) := by
  pointwise [Gen.k0_pay4]
  simp only [select_eq]; rfl

/-- A pair's margin. -/
theorem pay6_apply (x y : FVec Ideal S6 .f32) (refl : Vec Ideal S12 .f32) (pc pr : Vec Ideal S6 .i32) (i : Fin 6) :
    Gen.k0_pay6 (iota .tc S6x12 32 [1] iota_S6x12_d1_w32) x y refl (Gen.k0_pay5 pc) refl pr (ix1 i)
      = Ideal.ofBits .f32 0x3DCCCCCD#32 * ((x (ix1 i) - pick (fun q => refl (ix1 q)) (pc (ix1 i))) - (y (ix1 i) - pick (fun q => refl (ix1 q)) (pr (ix1 i)))) := by
  pointwise [Gen.k0_pay6, Gen.k0_pay5]
  simp only [select_eq]
  rfl

/-- A pair's loss is the loss of its margin. -/
theorem pay7_apply (a : IVec S6x12 32) (x y : FVec Ideal S6 .f32) (refl refl' : Vec Ideal S12 .f32) (pc : IVec S6x12 32) (pr : Vec Ideal S6 .i32) (i : Fin 6) :
    Gen.k0_pay7 a x y refl pc refl' pr (ix1 i) = loss (Gen.k0_pay6 a x y refl pc refl' pr (ix1 i)) := by
  pointwise [Gen.k0_pay7]
  generalize Gen.k0_pay6 a x y refl pc refl' pr (ix1 i) = g
  rw [if_neg (by simp), Ideal.absf_def]
  simp only [zero_sub, neg_neg]
  rw [max_comm (-g) g]; rfl

end Cert.ReferenceIdeal.Read

end
-- ==== Proof.RefVal.lean ====
/- The reference's four results, read at an index and stated in the terms of Spec. -/
module

public import proofs.«01_k».proof.Proof.RefRead

@[expose] public section

set_option maxRecDepth 16384
set_option maxHeartbeats 1000000

noncomputable section

namespace Cert.ReferenceIdeal.RefVal

open Idealize.ShloMosaic Cert.Spec Cert.ReferenceIdeal.Gen Cert.ReferenceIdeal.Value Cert.ReferenceIdeal.Read

variable (x0 : Vec Ideal S3x640x4096 .fp8e4m3) (x1 : Vec Ideal S3x640x128 .f32) (x2 : Vec Ideal S32768x4096 .fp8e4m3)
  (x3 : Vec Ideal S32768x128 .f32) (x4 x5 x6 : Vec Ideal S3x640 .i32) (x7 : Vec Ideal S12 .f32) (x8 x9 : Vec Ideal S6 .i32)

/-- The origin of a rank-one block. -/
theorem z1 : (![0] : Fin 1 → Nat) = fun _ => 0 := funext fun a => by fin_cases a <;> rfl
/-- The origin of a rank-two block. -/
theorem z2 : (![0, 0] : Fin 2 → Nat) = fun _ => 0 := funext fun a => by fin_cases a <;> rfl
/-- The origin of a rank-three block. -/
theorem z3 : (![0, 0, 0] : Fin 3 → Nat) = fun _ => 0 := funext fun a => by fin_cases a <;> rfl

/-- The label's log probability in row `r`. -/
def tokR (r : Fin 1920) : EReal := tokv (logit x0 x1 x2 x3 r) (x4 (ix2 (hi r) (lo r)))

/-- The masked sum of sequence `q`. -/
def polR (q : ℕ) : EReal := polv (tokR x0 x1 x2 x3 x4) (fun r => x6 (ix2 (hi r) (lo r))) (fun r => x5 (ix2 (hi r) (lo r))) q

/-- The margin of pair `p`. -/
def margR (p : Fin 6) : EReal := margin (fun q => polR x0 x1 x2 x3 x4 x5 x6 q.val) (fun q => x7 (ix1 q)) (x8 (ix1 p)) (x9 (ix1 p))

/-- Loading the whole operands changes nothing: the token log probabilities. -/
theorem pay8 : Gen.k0_pay8 x0 x1 x2 x3 x4 x5 x6 x7 x8 x9 = Gen.k0_pay1 x2 x3 x0 x1 x4 := by
  unfold Gen.k0_pay8
  rw [View.ld_unit_zero (S := S32768x4096) z2 _ x2, View.ld_unit_zero (S := S32768x128) z2 _ x3, View.ld_unit_zero (S := S3x640x4096) z3 _ x0,
    View.ld_unit_zero (S := S3x640x128) z3 _ x1, View.ld_unit_zero (S := S3x640) z2 _ x4]

/-- Likewise the chosen sequences' sums. -/
theorem pay10 : Gen.k0_pay10 x0 x1 x2 x3 x4 x5 x6 x7 x8 x9 = Gen.k0_pay3 (Gen.k0_pay1 x2 x3 x0 x1 x4) x6 x5 x8 := by
  unfold Gen.k0_pay10
  rw [pay8, View.ld_unit_zero (S := S3x640) z2 _ x6, View.ld_unit_zero (S := S3x640) z2 _ x5, View.ld_unit_zero (S := S6) z1 _ x8]

/-- Likewise the rejected sequences' sums. -/
theorem pay11 : Gen.k0_pay11 x0 x1 x2 x3 x4 x5 x6 x7 x8 x9 = Gen.k0_pay4 (Gen.k0_pay1 x2 x3 x0 x1 x4) x6 x5 x9 := by
  unfold Gen.k0_pay11
  rw [pay8, View.ld_unit_zero (S := S3x640) z2 _ x6, View.ld_unit_zero (S := S3x640) z2 _ x5, View.ld_unit_zero (S := S6) z1 _ x9]

/-- Likewise the chosen indices. -/
theorem pay12 : Gen.k0_pay12 x0 x1 x2 x3 x4 x5 x6 x7 x8 x9 = Gen.k0_pay5 x8 := by
  unfold Gen.k0_pay12
  rw [View.ld_unit_zero (S := S6) z1 _ x8]

/-- The fourth result at batch `b`, position `p`. -/
theorem G13_apply (b : Fin 3) (p : Fin 640) :
    G13 x0 x1 x2 x3 x4 x5 x6 x7 x8 x9 (ix2 b p) = tokR x0 x1 x2 x3 x4 (row b p) := by
  show Gen.k0_pay8 x0 x1 x2 x3 x4 x5 x6 x7 x8 x9 (ix2 b p) = _
  rw [pay8, pay1_apply]
  unfold tokR
  have e1 : hi (row b p) = b := Fin.ext (by show (b.val * 640 + p.val) / 640 = b.val; have := p.isLt; omega)
  have e2 : lo (row b p) = p := Fin.ext (by show (b.val * 640 + p.val) % 640 = p.val; have := p.isLt; omega)
  rw [e1, e2]

/-- The log probability of a flattened row. -/
theorem tok_at (r : Fin 1920) : Gen.k0_pay1 x2 x3 x0 x1 x4 (ix2 (hi r) (lo r)) = tokR x0 x1 x2 x3 x4 r := by
  rw [pay1_apply]
  have e : row (hi r) (lo r) = r := Fin.ext (by show r.val / 640 * 640 + r.val % 640 = r.val; omega)
  rw [e]
  rfl

/-- The masked sum of sequence `q` on the arguments. -/
theorem pol_at (q : Fin 12) : Gen.k0_pay2 (Gen.k0_pay1 x2 x3 x0 x1 x4) x6 x5 (ix1 q) = polR x0 x1 x2 x3 x4 x5 x6 q.val := by
  rw [pay2_apply]
  exact congrArg (fun t => polv t (fun r => x6 (ix2 (hi r) (lo r))) (fun r => x5 (ix2 (hi r) (lo r))) q.val) (funext fun r => tok_at x0 x1 x2 x3 x4 r)

/-- The first result at sequence `q`. -/
theorem G10_apply (q : Fin 12) : G10 x0 x1 x2 x3 x4 x5 x6 x7 x8 x9 (ix1 q) = polR x0 x1 x2 x3 x4 x5 x6 q.val := by
  show Gen.k0_pay2 (Gen.k0_pay8 x0 x1 x2 x3 x4 x5 x6 x7 x8 x9) x6 x5 (ix1 q) = _
  rw [pay8, pol_at]

/-- The masked sum that an index names. -/
theorem pol_pick (i : BitVec 32) :
    pick (fun q => Gen.k0_pay2 (Gen.k0_pay1 x2 x3 x0 x1 x4) x6 x5 (ix1 q)) i = pick (fun q => polR x0 x1 x2 x3 x4 x5 x6 q.val) i :=
  congrArg (fun f => pick f i) (funext fun q => pol_at x0 x1 x2 x3 x4 x5 x6 q)

/-- The third result at pair `p`. -/
theorem G12_apply (p : Fin 6) : G12 x0 x1 x2 x3 x4 x5 x6 x7 x8 x9 (ix1 p) = margR x0 x1 x2 x3 x4 x5 x6 x7 x8 x9 p := by
  show Gen.k0_pay6 (iota .tc S6x12 32 [1] iota_S6x12_d1_w32) (Gen.k0_pay10 x0 x1 x2 x3 x4 x5 x6 x7 x8 x9) (Gen.k0_pay11 x0 x1 x2 x3 x4 x5 x6 x7 x8 x9) x7
    (Gen.k0_pay12 x0 x1 x2 x3 x4 x5 x6 x7 x8 x9) x7 x9 (ix1 p) = _
  rw [pay10, pay11, pay12, pay6_apply, pay3_apply, pay4_apply, pol_pick, pol_pick]
  rfl

/-- The second result at pair `p`. -/
theorem G11_apply (p : Fin 6) : G11 x0 x1 x2 x3 x4 x5 x6 x7 x8 x9 (ix1 p) = loss (margR x0 x1 x2 x3 x4 x5 x6 x7 x8 x9 p) := by
  rw [← G12_apply]
  exact pay7_apply _ _ _ _ _ _ _ p

end Cert.ReferenceIdeal.RefVal

end
-- ==== Proof.Algebraic.lean ====
/- The ideal kernel and the ideal reference compute the same four results. -/
module

public import proofs.«01_k».proof.Defs
public import proofs.«01_k».proof.Proof.Final
public import proofs.«01_k».proof.Proof.RefVal

@[expose] public section

set_option maxRecDepth 16384
set_option maxHeartbeats 1000000

noncomputable section

namespace Cert.Algebraic

open Idealize.ShloMosaic Idealize.ShloMosaic.TcCoe Idealize.SL.Sem Cert.KernelIdeal.TokVal Cert.KernelIdeal.OutVal

section Results

open Cert.KernelIdeal

variable (m : (l : Loc nD τ sig) → Buf (Elt Ideal) l) (c : Dev nD)

/-- The reference's first result on the kernel's arguments is the kernel's. -/
theorem res0 : Cert.ReferenceIdeal.Value.G10 (a0 m c) (a1 m c) (a2 m c) (a3 m c) (a4 m c) (a5 m c) (a6 m c) (a7 m c) (a8 m c) (a9 m c) = Final.T m c main_v7 := by
  funext i
  obtain ⟨q, rfl⟩ : ∃ q : Fin 12, i = ix1 q := ⟨i 0, funext fun a => by fin_cases a; rfl⟩
  exact (Cert.ReferenceIdeal.RefVal.G10_apply (a0 m c) (a1 m c) (a2 m c) (a3 m c) (a4 m c) (a5 m c) (a6 m c) (a7 m c) (a8 m c) (a9 m c) q).trans (Final.T7_apply m c q).symm

/-- The reference's second result on the kernel's arguments is the kernel's. -/
theorem res1 : Cert.ReferenceIdeal.Value.G11 (a0 m c) (a1 m c) (a2 m c) (a3 m c) (a4 m c) (a5 m c) (a6 m c) (a7 m c) (a8 m c) (a9 m c) = Final.T m c main_v9 := by
  funext i
  obtain ⟨p, rfl⟩ : ∃ p : Fin 6, i = ix1 p := ⟨i 0, funext fun a => by fin_cases a; rfl⟩
  exact (Cert.ReferenceIdeal.RefVal.G11_apply (a0 m c) (a1 m c) (a2 m c) (a3 m c) (a4 m c) (a5 m c) (a6 m c) (a7 m c) (a8 m c) (a9 m c) p).trans (Final.T9_apply m c p).symm

/-- The reference's third result on the kernel's arguments is the kernel's. -/
theorem res2 : Cert.ReferenceIdeal.Value.G12 (a0 m c) (a1 m c) (a2 m c) (a3 m c) (a4 m c) (a5 m c) (a6 m c) (a7 m c) (a8 m c) (a9 m c) = Final.T m c main_v11 := by
  funext i
  obtain ⟨p, rfl⟩ : ∃ p : Fin 6, i = ix1 p := ⟨i 0, funext fun a => by fin_cases a; rfl⟩
  exact (Cert.ReferenceIdeal.RefVal.G12_apply (a0 m c) (a1 m c) (a2 m c) (a3 m c) (a4 m c) (a5 m c) (a6 m c) (a7 m c) (a8 m c) (a9 m c) p).trans (Final.T11_apply m c p).symm

/-- The reference's fourth result on the kernel's arguments is the kernel's. -/
theorem res3 : Cert.ReferenceIdeal.Value.G13 (a0 m c) (a1 m c) (a2 m c) (a3 m c) (a4 m c) (a5 m c) (a6 m c) (a7 m c) (a8 m c) (a9 m c) = Final.T m c main_v12 := by
  funext i
  obtain ⟨b, p, rfl⟩ : ∃ (b : Fin 3) (p : Fin 640), i = ix2 b p := ⟨i 0, i 1, funext fun a => by fin_cases a <;> rfl⟩
  exact (Cert.ReferenceIdeal.RefVal.G13_apply (a0 m c) (a1 m c) (a2 m c) (a3 m c) (a4 m c) (a5 m c) (a6 m c) (a7 m c) (a8 m c) (a9 m c) b p).trans (Final.T12_apply m c b p).symm

end Results

/-- From equal arguments the two programs leave equal results, and each leaves its arguments as they were. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Final.T m c Cert.KernelIdeal.main_v7, fun c => Cert.KernelIdeal.Final.T m c Cert.KernelIdeal.main_v9,
    fun c => Cert.KernelIdeal.Final.T m c Cert.KernelIdeal.main_v11, fun c => Cert.KernelIdeal.Final.T m c Cert.KernelIdeal.main_v12, ?_, ?_⟩
  · refine (θ_run _ _ _).mono (fun r h c => ?_) (θ_run_and (Cert.KernelIdeal.Final.run m g) (Cert.KernelIdeal.Gen.unchanged m g))
    obtain ⟨h0, h1, h2, h3⟩ := h.1 c
    exact ⟨h0, h1, h2, h3, h.2 c⟩
  · refine (θ_run _ _ _).mono (fun r h c => ?_) (Cert.ReferenceIdeal.Value.run m' g')
    obtain ⟨e0, e1, e2, e3, e4, e5, e6, e7, e8, e9⟩ := hargs c
    obtain ⟨h0, h1, h2, h3, h4⟩ := h c
    refine ⟨h0.trans ?_, h1.trans ?_, h2.trans ?_, h3.trans ?_, h4⟩
    · rw [e0, e1, e2, e3, e4, e5, e6, e7, e8, e9]; exact res0 m c
    · rw [e0, e1, e2, e3, e4, e5, e6, e7, e8, e9]; exact res1 m c
    · rw [e0, e1, e2, e3, e4, e5, e6, e7, e8, e9]; exact res2 m c
    · rw [e0, e1, e2, e3, e4, e5, e6, e7, e8, e9]; exact res3 m c

end Cert.Algebraic

end
-- ==== Proof.lean ====
/- The certificate: each program's frame, the named constants of the ideal program, and the equality of the ideal
   kernel's and the ideal reference's results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic

public import Idealize.ShloMosaic.Adequacy
public import Idealize.ShloMosaic.Init

@[expose] public section

noncomputable section

namespace Cert.Proof

open Idealize.ShloMosaic Idealize.SL.Sem Cert.Kernel

/-- Every program ends quietly with its arguments unchanged; the two replaced constants are the ones named; and the ideal
    kernel and the ideal reference give the same four results from the same arguments. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  ⟨IdealRules.named_const.statement Cert.KernelIdeal.κ "log2e" .f32 0x3FB8AA3B#32 (((Real.log 2)⁻¹ : ℝ) : EReal) rfl,
  IdealRules.named_const.statement Cert.KernelIdeal.κ "ln2" .f32 0x3F317218#32 ((Real.log 2 : ℝ) : EReal) rfl⟩,
  Cert.Algebraic.algebraic⟩

end Cert.Proof

end
